-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S8192x256 : Shape := ⟨2, ![8192, 256]⟩
abbrev S8192 : Shape := ⟨1, ![8192]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16x1024x256 .f32) (main_arg1 : FVec F S8192x256 .f32) (main_arg2 : FVec F S8192 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S16x1024x256 : Shape := ⟨3, ![16, 1024, 256]⟩
abbrev S8192x256 : Shape := ⟨2, ![8192, 256]⟩
abbrev S8192 : Shape := ⟨1, ![8192]⟩
abbrev S16384x256 : Shape := ⟨2, ![16384, 256]⟩
abbrev S8192x1 : Shape := ⟨2, ![8192, 1]⟩
abbrev S1x8192 : Shape := ⟨2, ![1, 8192]⟩
abbrev S16384x1 : Shape := ⟨2, ![16384, 1]⟩
abbrev S512x256 : Shape := ⟨2, ![512, 256]⟩
abbrev S512x1 : Shape := ⟨2, ![512, 1]⟩
abbrev S512x1024 : Shape := ⟨2, ![512, 1024]⟩
abbrev S1024x256 : Shape := ⟨2, ![1024, 256]⟩
abbrev S1x1024 : Shape := ⟨2, ![1, 1024]⟩
abbrev S512 : Shape := ⟨1, ![512]⟩
abbrev S16x1024 : Shape := ⟨2, ![16, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S8192, .f32⟩
  | .hbm, ⟨3, _⟩ => ⟨S16384x256, .f32⟩
  | .hbm, ⟨4, _⟩ => ⟨S8192x1, .f32⟩
  | .hbm, ⟨5, _⟩ => ⟨S8192x256, .f32⟩
  | .hbm, ⟨6, _⟩ => ⟨S1x8192, .f32⟩
  | .hbm, ⟨7, _⟩ => ⟨S16384x1, .i32⟩
  | .hbm, ⟨8, _⟩ => ⟨S16x1024, .i32⟩
  | .local _ .vmem, ⟨0, _⟩ => ⟨S8192x256, .f32⟩
  | .local _ .vmem, ⟨1, _⟩ => ⟨S8192x1, .f32⟩
  | .local _ .vmem, ⟨2, _⟩ => ⟨S8192x256, .f32⟩
  | .local _ .vmem, ⟨3, _⟩ => ⟨S1x8192, .f32⟩
  | .local _ .vmem, ⟨4, _⟩ => ⟨S512x256, .f32⟩
  | .local _ .vmem, ⟨5, _⟩ => ⟨S512x256, .f32⟩
  | .local _ .vmem, ⟨6, _⟩ => ⟨S8192x256, .f32⟩
  | .local _ .vmem, ⟨7, _⟩ => ⟨S1x8192, .f32⟩
  | .local _ .vmem, ⟨8, _⟩ => ⟨S512x1, .i32⟩
  | .local _ .vmem, ⟨9, _⟩ => ⟨S512x1, .i32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .i32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := .none

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![32, 4], ![false, false]⟩

def k1_off1 (i : grid1.Coords) : Fin 2 → Nat :=
  let c2_i32 : BitVec 32 := 2#32
  let arg1 : BitVec 32 := BitVec.ofNat 32 (i 1).val
  let v0 : BitVec 32 := Scalar.muli c2_i32 arg1
  let c1024_i32 : BitVec 32 := 1024#32
  let v3 : BitVec 32 := Scalar.muli v0 c1024_i32
  let v4 : Index := Scalar.indexCast v3
  let c0_1 : Index := 0#32
  ![v4.toNat, 0]
def k1_off2 (i : grid1.Coords) : Fin 2 → Nat :=
  let c0_5 : Index := 0#32
  let c2_i32 : BitVec 32 := 2#32
  let arg1 : BitVec 32 := BitVec.ofNat 32 (i 1).val
  let v0 : BitVec 32 := Scalar.muli c2_i32 arg1
  let c1_i32 : BitVec 32 := 1#32
  let v11 : BitVec 32 := Scalar.subi v0 c1_i32
  let c0_i32 : BitVec 32 := 0#32
  let v12 : BitVec 32 := Scalar.maxsi v11 c0_i32
  let c1024_i32_4 : BitVec 32 := 1024#32
  let v13 : BitVec 32 := Scalar.muli v12 c1024_i32_4
  let v14 : Index := Scalar.indexCast v13
  ![0, v14.toNat]
def k1_off3 (i : grid1.Coords) : Fin 2 → Nat :=
  let c2_i32 : BitVec 32 := 2#32
  let arg1 : BitVec 32 := BitVec.ofNat 32 (i 1).val
  let v0 : BitVec 32 := Scalar.muli c2_i32 arg1
  let c1_i32_13 : BitVec 32 := 1#32
  let v37 : BitVec 32 := Scalar.addi v0 c1_i32_13
  let c1024_i32_14 : BitVec 32 := 1024#32
  let v38 : BitVec 32 := Scalar.muli v37 c1024_i32_14
  let v39 : Index := Scalar.indexCast v38
  let c0_15 : Index := 0#32
  ![v39.toNat, 0]
def k1_off4 (i : grid1.Coords) : Fin 2 → Nat :=
  let c0_20 : Index := 0#32
  let c2_i32 : BitVec 32 := 2#32
  let arg1 : BitVec 32 := BitVec.ofNat 32 (i 1).val
  let v0 : BitVec 32 := Scalar.muli c2_i32 arg1
  let c1024_i32_19 : BitVec 32 := 1024#32
  let v46 : BitVec 32 := Scalar.muli v0 c1024_i32_19
  let v47 : Index := Scalar.indexCast v46
  ![0, v47.toNat]
def k1_cond4 (i : grid1.Coords) : BitVec 1 :=
  let arg1 : BitVec 32 := BitVec.ofNat 32 (i 1).val
  let c3_i32 : BitVec 32 := 3#32
  let v73 : BitVec 1 := Scalar.cmpi .eq arg1 c3_i32
  let v74 : BitVec 32 := Scalar.extui v73
  let c0_i32_31 : BitVec 32 := 0#32
  let v75 : BitVec 1 := Scalar.cmpi .ne v74 c0_i32_31
  v75

def k1_off5 (i : grid1.Coords) : Fin 2 → Nat :=
  let c0_34 : Index := 0#32
  let c2_i32 : BitVec 32 := 2#32
  let arg1 : BitVec 32 := BitVec.ofNat 32 (i 1).val
  let v0 : BitVec 32 := Scalar.muli c2_i32 arg1
  let c1_i32_32 : BitVec 32 := 1#32
  let v76 : BitVec 32 := Scalar.addi v0 c1_i32_32
  let c1024_i32_33 : BitVec 32 := 1024#32
  let v77 : BitVec 32 := Scalar.muli v76 c1024_i32_33
  let v78 : Index := Scalar.indexCast v77
  ![0, v78.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S16x1024x256 : Shape := ⟨3, ![16, 1024, 256]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S16384x256 : Shape := ⟨2, ![16384, 256]⟩
abbrev S16384 : Shape := ⟨1, ![16384]⟩
abbrev S16384x1 : Shape := ⟨2, ![16384, 1]⟩
abbrev S1x8192 : Shape := ⟨2, ![1, 8192]⟩
abbrev S16384x8192 : Shape := ⟨2, ![16384, 8192]⟩
abbrev S256x8192 : Shape := ⟨2, ![256, 8192]⟩
abbrev S16x1024 : Shape := ⟨2, ![16, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S8192x256, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S256x8192, .f32⟩
  | .hbm, ⟨22, _⟩ => ⟨S16384x8192, .f32⟩
  | .hbm, ⟨23, _⟩ => ⟨S_, .f32⟩
  | .hbm, ⟨24, _⟩ => ⟨S16384x8192, .f32⟩
  | .hbm, ⟨25, _⟩ => ⟨S16384x8192, .f32⟩
  | .hbm, ⟨26, _⟩ => ⟨S16384x8192, .f32⟩
  | .hbm, ⟨27, _⟩ => ⟨S_, .f32⟩
  | .hbm, ⟨28, _⟩ => ⟨S16384x8192, .f32⟩
  | .hbm, ⟨29, _⟩ => ⟨S16384x8192, .f32⟩
  | .hbm, ⟨30, _⟩ => ⟨S16384x8192, .f32⟩
  | .hbm, ⟨31, _⟩ => ⟨S16384x8192, .i32⟩
  | .hbm, ⟨32, _⟩ => ⟨S_, .f32⟩
  | .hbm, ⟨33, _⟩ => ⟨S_, .i32⟩
  | .hbm, ⟨34, _⟩ => ⟨S16384, .f32⟩
  | .hbm, ⟨35, _⟩ => ⟨S16384, .i32⟩
  | .hbm, ⟨36, _⟩ => ⟨S16x1024, .i32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.KernelIdeal.Prep.lean ====
/-
  The preparation call of the kernel: its body takes the codebook's sums and the clamped counts, and leaves the
  embeddings times −2 in one buffer and their squared norms in the other. Here: the body's run, as a triple over
  the four staging buffers, and the region's proof data from any contents of the arrays.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameTail
public import Idealize.ShloMosaic.Lib.Pipeline.Value
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole rank-2 buffer held at the contents that read `X` reads `X`. -/
theorem load_unread {sp : Space} {d : Fin 2 → ℕ} {e : EltTy} {M : Memref sig .tc sp ⟨2, d⟩ e} (h : M.IsWhole)
    (X : Shape.Idx ⟨2, d⟩ → Elt F e) {off : Fin 2 → ℕ} (inb : ∀ a : Fin 2, off a + d a ≤ d a) :
    View.readAt (Elt F) M.view (Rect.unit (s := ⟨2, d⟩) off d inb).toLoadRect (h.unread X) = X :=
  (View.readAt_full M.view _ inb).trans (h.read_unread X)

/-- The preparation body, from the two inputs at `x0`, `x1` and the two results' buffers at anything, leaves
`k0_pay3 x0 x1` (the embeddings times −2) and `k0_pay2 x0 x1` (the squared norms), the inputs as they were. -/
theorem prep_run (c : Dev nD) (arg0 : Memref sig .tc .vmem S8192x256 .f32) (harg0 : arg0.IsWhole)
    (arg1 : Memref sig .tc .vmem S8192x1 .f32) (harg1 : arg1.IsWhole)
    (arg2 : Memref sig .tc .vmem S8192x256 .f32) (harg2 : arg2.IsWhole)
    (arg3 : Memref sig .tc .vmem S1x8192 .f32) (harg3 : arg3.IsWhole)
    (x0 : Vec F S8192x256 .f32) (x1 : Vec F S8192x1 .f32) (E : Set ℕ) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
          ∗ owns (c : Thread nD τ) arg2 fullShare (k0_pay3 x0 x1)
          ∗ owns (c : Thread nD τ) arg3 fullShare (k0_pay2 x0 x1)) -∗ K ⟨⟩))
      ⊢ wp frame (wpE (defs₀ (F := F)) Variants.none c none) E
          (cc0__prep_body arg0 harg0 arg1 harg1 arg2 harg2 arg3 harg3) K := by
  simp only [cc0__prep_body_eq_skeleton]; unfold cc0__prep_body_skel
  unfold owns
  iintro ⟨⟨%f0, %hf0, H0⟩, ⟨%f1, %hf1, H1⟩, ⟨%d2, %f2, -, H2⟩, ⟨%d3, %f3, -, H3⟩, Hk⟩
  obtain rfl := harg0.eq_unread hf0; obtain rfl := harg1.eq_unread hf1
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; swap; · iexact H2
    ipureintro
    rw [View.read_writes_full]
    rw [load_unread, load_unread]
  iexists _; isplitr; swap; · iexact H3
  ipureintro
  rw [View.read_writes_full]
  rw [load_unread, load_unread]

section Region

variable (V : (c : Dev nD) → (b : Ref sig .tc) → Buf (Elt F) ((c : Thread nD τ).loc b))

/-- Window `w`'s block of the preparation call, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The preparation call's proof data, from the arrays at `V`: after the body the inputs' buffers as fetched, the
results' at the two payloads of the inputs' blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (F := F) (iblk0 V c 0 t) (iblk0 V c 1 t)
    | ⟨3, _⟩ => k0_pay2 (F := F) (iblk0 V c 0 t) (iblk0 V c 1 t)
  Φ _ := Pipeline.ΦA spec0 c
  q _ := fullShare
  owed _ := 0
  recorded _ := Set.univ

theorem dat0_A (c : Dev nD) (w : Fin cfg0.W) : (dat0 V c).A w = V c (Pipeline.arrRef spec0 w) := by
  dsimp only [dat0]
theorem dat0_after0 (c : Dev nD) (t : Fin cfg0.N) : (dat0 V c).after 0 t = iblk0 V c 0 t := by dsimp only [dat0]
theorem dat0_after1 (c : Dev nD) (t : Fin cfg0.N) : (dat0 V c).after 1 t = iblk0 V c 1 t := by dsimp only [dat0]
theorem dat0_after2 (c : Dev nD) (t : Fin cfg0.N) :
    (dat0 V c).after 2 t = k0_pay3 (F := F) (iblk0 V c 0 t) (iblk0 V c 1 t) := by dsimp only [dat0]
theorem dat0_after3 (c : Dev nD) (t : Fin cfg0.N) :
    (dat0 V c).after 3 t = k0_pay2 (F := F) (iblk0 V c 0 t) (iblk0 V c 1 t) := by dsimp only [dat0]

/-- The fetched buffers hold their blocks when the body runs. -/
theorem dat0_before0 (c : Dev nD) (t : Fin cfg0.N) (d) : (dat0 V c).before 0 t d = iblk0 V c 0 t :=
  ((dat0 V c).before_in_eq_fetched 0 rfl (fun _ => rfl) (fun _ _ _ => rfl)
    (fun t => by rw [dat0_after0]; unfold Dat.blockOf iblk0; rw [dat0_A]) t d).trans
    (by unfold Dat.fetched Dat.blockOf iblk0; rw [dat0_A]; rfl)
theorem dat0_before1 (c : Dev nD) (t : Fin cfg0.N) (d) : (dat0 V c).before 1 t d = iblk0 V c 1 t :=
  ((dat0 V c).before_in_eq_fetched 1 rfl (fun _ => rfl) (fun _ _ _ => rfl)
    (fun t => by rw [dat0_after1]; unfold Dat.blockOf iblk0; rw [dat0_A]) t d).trans
    (by unfold Dat.fetched Dat.blockOf iblk0; rw [dat0_A]; rfl)

/-- The body's triple at the one point, over the windows' staging buffers. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t
        ∗ (dat0 V c).leavesExact 2 t ∗ (dat0 V c).leavesExact 3 t)) := by
  unfold bodyAt0
  simp only [dat0_before0, dat0_before1]
  rw [show (dat0 V c).owesAt () t.succ = (dat0 V c).owesAt () t.castSucc from rfl,
    show (dat0 V c).Φ t.succ = (dat0 V c).Φ t.castSucc from rfl]
  rw [show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl,
    show (dat0 V c).leavesExact 2 t = owns (c : Thread nD τ) (st0_2 t) fullShare ((dat0 V c).after 2 t) from rfl,
    show (dat0 V c).leavesExact 3 t = owns (c : Thread nD τ) (st0_3 t) fullShare ((dat0 V c).after 3 t) from rfl,
    dat0_after0, dat0_after1, dat0_after2, dat0_after3]
  iintro ⟨HΦ, Ho, ⟨%d0, H0⟩, ⟨%d1, H1⟩, ⟨%d2, H2⟩, ⟨%d3, H3⟩⟩
  iapply (prep_run c _ _ _ _ _ _ _ _ (iblk0 V c 0 t) (iblk0 V c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the preparation call. -/
theorem body_obligation0 (c : Dev nD) : BodyObligation (dat0 V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body0 V c t) rfl .rfl fun _ => .rfl

end Region

end Cert.KernelIdeal.Hand

end
-- ==== Proof.KernelIdeal.Body.lean ====
/-
  The main call's body, one grid point: a block of 512 rows of the hidden states against two blocks of 1024 codes.
  The running minimum, the running index and the product of the point's second code block are carried in scratch:
  the second block's product is folded in at the NEXT point. Here: the carried state as a function of the point's
  inputs and of the state before, and the body's run in its three cases (first, middle and last point of a row block).
-/
module

public import proofs.«01_k».proof.Proof.KernelIdeal.Prep
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a rectangle of a whole rank-2 buffer held at the contents that read `X` reads `X` on the rectangle. -/
theorem loadAt_unread {sp : Space} {d : Fin 2 → ℕ} {e : EltTy} {M : Memref sig .tc sp ⟨2, d⟩ e} (h : M.IsWhole)
    (X : Shape.Idx ⟨2, d⟩ → Elt F e) {off size : Fin 2 → ℕ} (inb : ∀ a : Fin 2, off a + size a ≤ d a) :
    View.readAt (Elt F) M.view (Rect.unit (s := ⟨2, d⟩) off size inb).toLoadRect (h.unread X)
      = View.ld X (Rect.unit (s := ⟨2, d⟩) off size inb) := by
  exact funext fun x => congrFun (h.read_unread X) _

/-- A load of a whole rank-2 buffer after a store of the whole of it reads what was stored. -/
theorem load_stored {sp : Space} {d : Fin 2 → ℕ} {e : EltTy} (v : View sig .tc sp ⟨2, d⟩ e) {off off' : Fin 2 → ℕ}
    (inb : ∀ a : Fin 2, off a + d a ≤ d a) (inb' : ∀ a : Fin 2, off' a + d a ≤ d a)
    (w : Shape.Idx ⟨2, d⟩ → Elt F e) (L : List (View.Piece (Elt F) ⟨2, d⟩ e)) :
    v.readCov (⟨Rect.unit (s := ⟨2, d⟩) off' d inb', w⟩ :: L) (Rect.unit (s := ⟨2, d⟩) off d inb).toLoadRect = w :=
  View.readCov_full v inb inb' w L

/-- The first code block of the point, its number: twice the inner coordinate. -/
abbrev blk0 (i : grid1.Coords) : BitVec 32 := Scalar.muli 2#32 (BitVec.ofNat 32 (i 1).val)

/-- The carried state: the second block's product, the running minimum, the running index. -/
abbrev St (F : FTy → Type) : Type := Vec F S512x1024 .f32 × Vec F S512x1 .f32 × Vec F S512x1 .i32

/-- The product of the point's rows with its first code block. -/
def prodA (i : grid1.Coords) (a : Vec F S512x256 .f32) (e : Vec F S8192x256 .f32) : Vec F S512x1024 .f32 :=
  k1_pay7 a (View.ld e (Rect.unit (s := S8192x256) (k1_off1 i) S1024x256.size (k1_off1_inb i)))

/-- The product of the point's rows with its second code block. -/
def prodB (i : grid1.Coords) (a : Vec F S512x256 .f32) (e : Vec F S8192x256 .f32) : Vec F S512x1024 .f32 :=
  k1_pay14 (k1_pay6 a) (View.ld e (Rect.unit (s := S8192x256) (k1_off3 i) S1024x256.size (k1_off3_inb i)))

/-- The squared norms of the code block before the point's first, of the point's first, and of its second. -/
def normPrev (i : grid1.Coords) (b : Vec F S1x8192 .f32) : Vec F S1x1024 .f32 :=
  View.ld b (Rect.unit (s := S1x8192) (k1_off2 i) S1x1024.size (k1_off2_inb i))
def normA (i : grid1.Coords) (b : Vec F S1x8192 .f32) : Vec F S1x1024 .f32 :=
  View.ld b (Rect.unit (s := S1x8192) (k1_off4 i) S1x1024.size (k1_off4_inb i))
def normB (i : grid1.Coords) (h : k1_cond4 i = 1#1) (b : Vec F S1x8192 .f32) : Vec F S1x1024 .f32 :=
  View.ld b (Rect.unit (s := S1x8192) (k1_off5 i) S1x1024.size (k1_off5_inb i h))

/-- The state after the first point of a row block: its first code block alone is in the minimum. -/
def stFirst (i : grid1.Coords) (a : Vec F S512x256 .f32) (e : Vec F S8192x256 .f32) (b : Vec F S1x8192 .f32) : St F :=
  (prodB i a e, k1_pay18 (normA i b) (prodA i a e), k1_pay19 (blk0 i) (normA i b) (prodA i a e))

/-- The minimum after the previous point's second block is folded in, -/
def midMin (i : grid1.Coords) (b : Vec F S1x8192 .f32) (s : St F) : Vec F S512x1 .f32 :=
  k1_pay12 (k1_pay9 (normPrev i b) s.1) s.2.1 s.2.1
/-- and its index. -/
def midIdx (i : grid1.Coords) (b : Vec F S1x8192 .f32) (s : St F) : Vec F S512x1 .i32 :=
  k1_pay13 (k1_pay9 (normPrev i b) s.1) (k1_pay10 i (normPrev i b) s.1) s.2.1 s.2.2

/-- The state after a later point, from the state before: the previous point's second block, then the first block. -/
def stNext (i : grid1.Coords) (a : Vec F S512x256 .f32) (e : Vec F S8192x256 .f32) (b : Vec F S1x8192 .f32) (s : St F) : St F :=
  (prodB i a e, k1_pay21 (normA i b) (prodA i a e) (midMin i b s) (midMin i b s),
    k1_pay22 (blk0 i) (normA i b) (prodA i a e) (midMin i b s) (midIdx i b s))

/-- The state after the last point's closing fold of its own second block. -/
def stTail (i : grid1.Coords) (h : k1_cond4 i = 1#1) (b : Vec F S1x8192 .f32) (s : St F) : St F :=
  (s.1, k1_pay4 (normB i h b) s.1 s.2.1 s.2.1, k1_pay5 (blk0 i) (normB i h b) s.1 s.2.1 s.2.2)

/-- The body's branch conditions over the grid coordinates: past the first point, at the first point. -/
abbrev condLater (i : grid1.Coords) : Prop :=
  (Scalar.cmpi .ne (Scalar.extui (Scalar.cmpi .sgt (BitVec.ofNat 32 (i 1).val) 0#32)) 0#32) = 1#1
abbrev condFirst (i : grid1.Coords) : Prop :=
  (Scalar.cmpi .ne (Scalar.extui (Scalar.cmpi .eq (BitVec.ofNat 32 (i 1).val) 0#32)) 0#32) = 1#1

theorem condLater_iff : ∀ t : Fin cfg1.N, condLater (grid1.coords t) ↔ 1 ≤ t.val % 4 :=
  (by decide +kernel : ∀ t : Fin grid1.N, condLater (grid1.coords t) ↔ 1 ≤ t.val % 4)
theorem condFirst_iff : ∀ t : Fin cfg1.N, condFirst (grid1.coords t) ↔ t.val % 4 = 0 :=
  (by decide +kernel : ∀ t : Fin grid1.N, condFirst (grid1.coords t) ↔ t.val % 4 = 0)
theorem cond4_iff : ∀ t : Fin cfg1.N, k1_cond4 (grid1.coords t) = 1#1 ↔ t.val % 4 = 3 :=
  (by decide +kernel : ∀ t : Fin grid1.N, k1_cond4 (grid1.coords t) = 1#1 ↔ t.val % 4 = 3)

section Runs

variable (c : Dev nD) (i : grid1.Coords)
  (arg2 : Memref sig .tc .vmem S512x256 .f32) (harg2 : arg2.IsWhole)
  (arg3 : Memref sig .tc .vmem S8192x256 .f32) (harg3 : arg3.IsWhole)
  (arg4 : Memref sig .tc .vmem S1x8192 .f32) (harg4 : arg4.IsWhole)
  (arg5 : Memref sig .tc .vmem S512x1 .i32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S512x1 .f32) (harg8 : arg8.IsWhole)
  (arg9 : Memref sig .tc .vmem S512x1 .i32) (harg9 : arg9.IsWhole)
  (a : Vec F S512x256 .f32) (e : Vec F S8192x256 .f32) (b : Vec F S1x8192 .f32)

set_option maxHeartbeats 2000000 in
/-- The first point of a row block: whatever the scratch held, it leaves `stFirst`; the result's buffer is not touched. -/
theorem run_first (h1 : ¬condLater i) (h2 : condFirst i) (h4 : ¬k1_cond4 i = 1#1) (xo : Vec F S512x1 .i32)
    (E : Set ℕ) (K : PUnit → sProp 𝕄) :
    iprop(owns (c : Thread nD τ) arg2 fullShare a ∗ owns (c : Thread nD τ) arg3 fullShare e
        ∗ owns (c : Thread nD τ) arg4 fullShare b ∗ owns (c : Thread nD τ) arg5 fullShare xo
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare a ∗ owns (c : Thread nD τ) arg3 fullShare e
          ∗ owns (c : Thread nD τ) arg4 fullShare b ∗ owns (c : Thread nD τ) arg5 fullShare xo
          ∗ (∃ d, owns (c : Thread nD τ) arg6 fullShare d) ∗ owns (c : Thread nD τ) arg7 fullShare (stFirst i a e b).1
          ∗ owns (c : Thread nD τ) arg8 fullShare (stFirst i a e b).2.1
          ∗ owns (c : Thread nD τ) arg9 fullShare (stFirst i a e b).2.2) -∗ K ⟨⟩))
      ⊢ wp frame (wpE (defs₀ (F := F)) Variants.none c none) E
          (cc1__body i arg2 harg2 arg3 harg3 arg4 harg4 arg5 harg5 arg6 harg6 arg7 harg7 arg8 harg8 arg9 harg9) K := by
  simp only [cc1__body_eq_skeleton]; unfold cc1__body_skel
  simp only [k1_part3_eq_skeleton, k1_part2_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3
  obtain rfl := harg4.eq_unread hf4; obtain rfl := harg5.eq_unread hf5
  sl_exec (disch := first | sl_exact h1 | sl_exact h2 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; iexists _; isplitr; swap; · iexact H6
    ipureintro; rfl
  isplitl [H7]
  · iexists _; isplitr; swap; · iexact H7
    ipureintro
    frame_open
    rw [View.read_writes_full]
    simp only [load_unread, loadAt_unread, load_stored]
    rfl
  isplitl [H8]
  · iexists _; isplitr; swap; · iexact H8
    ipureintro
    frame_open
    rw [View.read_writes_full]
    simp only [load_unread, loadAt_unread, load_stored]
    rfl
  iexists _; isplitr; swap; · iexact H9
  ipureintro
  frame_open
  rw [View.read_writes_full]
  simp only [load_unread, loadAt_unread, load_stored]
  rfl

set_option maxHeartbeats 2000000 in
/-- A middle point: from the state `s` it leaves `stNext … s`; the result's buffer is not touched. -/
theorem run_next (s : St F) (h1 : condLater i) (h2 : ¬condFirst i) (h4 : ¬k1_cond4 i = 1#1) (xo : Vec F S512x1 .i32)
    (E : Set ℕ) (K : PUnit → sProp 𝕄) :
    iprop(owns (c : Thread nD τ) arg2 fullShare a ∗ owns (c : Thread nD τ) arg3 fullShare e
        ∗ owns (c : Thread nD τ) arg4 fullShare b ∗ owns (c : Thread nD τ) arg5 fullShare xo
        ∗ (∃ d, owns (c : Thread nD τ) arg6 fullShare d) ∗ owns (c : Thread nD τ) arg7 fullShare s.1
        ∗ owns (c : Thread nD τ) arg8 fullShare s.2.1 ∗ owns (c : Thread nD τ) arg9 fullShare s.2.2
        ∗ (iprop(owns (c : Thread nD τ) arg2 fullShare a ∗ owns (c : Thread nD τ) arg3 fullShare e
          ∗ owns (c : Thread nD τ) arg4 fullShare b ∗ owns (c : Thread nD τ) arg5 fullShare xo
          ∗ (∃ d, owns (c : Thread nD τ) arg6 fullShare d) ∗ owns (c : Thread nD τ) arg7 fullShare (stNext i a e b s).1
          ∗ owns (c : Thread nD τ) arg8 fullShare (stNext i a e b s).2.1
          ∗ owns (c : Thread nD τ) arg9 fullShare (stNext i a e b s).2.2) -∗ K ⟨⟩))
      ⊢ wp frame (wpE (defs₀ (F := F)) Variants.none c none) E
          (cc1__body i arg2 harg2 arg3 harg3 arg4 harg4 arg5 harg5 arg6 harg6 arg7 harg7 arg8 harg8 arg9 harg9) K := by
  simp only [cc1__body_eq_skeleton]; unfold cc1__body_skel
  simp only [k1_part3_eq_skeleton, k1_part2_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3
  obtain rfl := harg4.eq_unread hf4; obtain rfl := harg5.eq_unread hf5
  obtain rfl := harg7.eq_unread hf7; obtain rfl := harg8.eq_unread hf8; obtain rfl := harg9.eq_unread hf9
  sl_exec (disch := first | sl_exact h1 | sl_exact h2 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; iexists _; isplitr; swap; · iexact H6
    ipureintro; rfl
  isplitl [H7]
  · iexists _; isplitr; swap; · iexact H7
    ipureintro
    frame_open
    rw [View.read_writes_full]
    simp only [load_unread, loadAt_unread, load_stored]
    rfl
  isplitl [H8]
  · iexists _; isplitr; swap; · iexact H8
    ipureintro
    frame_open
    rw [View.read_writes_full]
    simp only [load_unread, loadAt_unread, load_stored]
    rfl
  iexists _; isplitr; swap; · iexact H9
  ipureintro
  frame_open
  rw [View.read_writes_full]
  simp only [load_unread, loadAt_unread, load_stored]
  rfl

set_option maxHeartbeats 2000000 in
/-- The last point: from the state `s` it leaves `stTail … (stNext … s)` and writes its index out. -/
theorem run_last (s : St F) (h1 : condLater i) (h2 : ¬condFirst i) (h4 : k1_cond4 i = 1#1)
    (E : Set ℕ) (K : PUnit → sProp 𝕄) :
    iprop(owns (c : Thread nD τ) arg2 fullShare a ∗ owns (c : Thread nD τ) arg3 fullShare e
        ∗ owns (c : Thread nD τ) arg4 fullShare b ∗ (∃ d, owns (c : Thread nD τ) arg5 fullShare d)
        ∗ (∃ d, owns (c : Thread nD τ) arg6 fullShare d) ∗ owns (c : Thread nD τ) arg7 fullShare s.1
        ∗ owns (c : Thread nD τ) arg8 fullShare s.2.1 ∗ owns (c : Thread nD τ) arg9 fullShare s.2.2
        ∗ (iprop(owns (c : Thread nD τ) arg2 fullShare a ∗ owns (c : Thread nD τ) arg3 fullShare e
          ∗ owns (c : Thread nD τ) arg4 fullShare b ∗ owns (c : Thread nD τ) arg5 fullShare (stTail i h4 b (stNext i a e b s)).2.2
          ∗ (∃ d, owns (c : Thread nD τ) arg6 fullShare d) ∗ owns (c : Thread nD τ) arg7 fullShare (stTail i h4 b (stNext i a e b s)).1
          ∗ owns (c : Thread nD τ) arg8 fullShare (stTail i h4 b (stNext i a e b s)).2.1
          ∗ owns (c : Thread nD τ) arg9 fullShare (stTail i h4 b (stNext i a e b s)).2.2) -∗ K ⟨⟩))
      ⊢ wp frame (wpE (defs₀ (F := F)) Variants.none c none) E
          (cc1__body i arg2 harg2 arg3 harg3 arg4 harg4 arg5 harg5 arg6 harg6 arg7 harg7 arg8 harg8 arg9 harg9) K := by
  simp only [cc1__body_eq_skeleton]; unfold cc1__body_skel
  simp only [k1_part3_eq_skeleton, k1_part2_eq_skeleton, k1_part1_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3
  obtain rfl := harg4.eq_unread hf4
  obtain rfl := harg7.eq_unread hf7; obtain rfl := harg8.eq_unread hf8; obtain rfl := harg9.eq_unread hf9
  sl_exec (disch := first | sl_exact h1 | sl_exact h2 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    frame_open
    rw [View.read_writes_full]
    simp only [load_unread, loadAt_unread, load_stored]
    rfl
  isplitl [H6]
  · iexists _; iexists _; isplitr; swap; · iexact H6
    ipureintro; rfl
  isplitl [H7]
  · iexists _; isplitr; swap; · iexact H7
    ipureintro
    frame_open
    rw [View.read_writes_full]
    simp only [load_unread, loadAt_unread, load_stored]
    rfl
  isplitl [H8]
  · iexists _; isplitr; swap; · iexact H8
    ipureintro
    frame_open
    rw [View.read_writes_full]
    simp only [load_unread, loadAt_unread, load_stored]
    rfl
  iexists _; isplitr; swap; · iexact H9
  ipureintro
  frame_open
  rw [View.read_writes_full]
  simp only [load_unread, loadAt_unread, load_stored]
  rfl

end Runs

end Cert.KernelIdeal.Hand

end
-- ==== Proof.KernelIdeal.Main.lean ====
/-
  The main call as a pipeline region: its carried state point by point, its proof data from any contents of the
  arrays, and the library's body obligation. The invariant before a point is the carried scratch at the recursion
  `stAt`, where the point is not the first of its row block; there the scratch may hold anything.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of the main call at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state before point `n`: reset by the first point of a row block, stepped by the others. -/
def stAt (c : Dev nD) : ℕ → St F
  | 0 => stFirst (grid1.coords ⟨0, by decide⟩) (iblk1 V c 0 ⟨0, by decide⟩) (iblk1 V c 1 ⟨0, by decide⟩) (iblk1 V c 2 ⟨0, by decide⟩)
  | n + 1 =>
    if h : n < cfg1.N then
      if n % 4 = 0 then
        stFirst (grid1.coords ⟨n, h⟩) (iblk1 V c 0 ⟨n, h⟩) (iblk1 V c 1 ⟨n, h⟩) (iblk1 V c 2 ⟨n, h⟩)
      else
        stNext (grid1.coords ⟨n, h⟩) (iblk1 V c 0 ⟨n, h⟩) (iblk1 V c 1 ⟨n, h⟩) (iblk1 V c 2 ⟨n, h⟩) (stAt c n)
    else stAt c n

theorem stAt_first (c : Dev nD) (t : Fin cfg1.N) (h : t.val % 4 = 0) :
    stAt V c (t.val + 1) = stFirst (grid1.coords t) (iblk1 V c 0 t) (iblk1 V c 1 t) (iblk1 V c 2 t) := by
  rw [stAt, dif_pos t.isLt, if_pos h]

theorem stAt_next (c : Dev nD) (t : Fin cfg1.N) (h : ¬t.val % 4 = 0) :
    stAt V c (t.val + 1)
      = stNext (grid1.coords t) (iblk1 V c 0 t) (iblk1 V c 1 t) (iblk1 V c 2 t) (stAt V c t.val) := by
  rw [stAt, dif_pos t.isLt, if_neg h]

/-- What point `t` leaves in the result's buffer: at the last point of a row block the index after the closing fold. -/
def outAt (c : Dev nD) (t : Fin cfg1.N) : Vec F S512x1 .i32 :=
  if h : k1_cond4 (grid1.coords t) = 1#1 then
    (stTail (grid1.coords t) h (iblk1 V c 2 t) (stAt V c (t.val + 1))).2.2
  else (stAt V c (t.val + 1)).2.2

/-- The invariant before position `n`. -/
def Phi1 (c : Dev nD) (n : ℕ) : sProp 𝕄 :=
  iprop((∃ r, prngReg c r)
    ∗ ((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f))
    ∗ (∃ d, owns (c : Thread nD τ) (Memref.whole cc1_scratch0) fullShare d)
    ∗ (∃ s : St F, ⌜¬n % 4 = 0 → s = stAt V c n⌝ ∗ owns (c : Thread nD τ) (Memref.whole cc1_scratch1) fullShare s.1
      ∗ owns (c : Thread nD τ) (Memref.whole cc1_scratch2) fullShare s.2.1
      ∗ owns (c : Thread nD τ) (Memref.whole cc1_scratch3) fullShare s.2.2))

/-- The main call's proof data, from the arrays at `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := Phi1 V c t.val
  q _ := fullShare
  owed _ := 0
  recorded _ := Set.univ

theorem dat1_A (c : Dev nD) (w : Fin cfg1.W) : (dat1 V c).A w = V c (Pipeline.arrRef spec1 w) := by
  dsimp only [dat1]
theorem dat1_after0 (c : Dev nD) (t : Fin cfg1.N) : (dat1 V c).after 0 t = iblk1 V c 0 t := by dsimp only [dat1]
theorem dat1_after1 (c : Dev nD) (t : Fin cfg1.N) : (dat1 V c).after 1 t = iblk1 V c 1 t := by dsimp only [dat1]
theorem dat1_after2 (c : Dev nD) (t : Fin cfg1.N) : (dat1 V c).after 2 t = iblk1 V c 2 t := by dsimp only [dat1]
theorem dat1_after3 (c : Dev nD) (t : Fin cfg1.N) : (dat1 V c).after 3 t = outAt V c t := by dsimp only [dat1]

/-- The input windows' buffers hold their blocks when the body runs. -/
theorem dat1_before0 (c : Dev nD) (t : Fin cfg1.N) (d) : (dat1 V c).before 0 t d = iblk1 V c 0 t :=
  ((dat1 V c).before_in_eq_fetched 0 rfl (fun _ => rfl) (fun _ _ _ => rfl)
    (fun t => by rw [dat1_after0]; unfold Dat.blockOf iblk1; rw [dat1_A]; try rfl) t d).trans
    (by unfold Dat.fetched Dat.blockOf iblk1; rw [dat1_A]; try rfl)
theorem dat1_before1 (c : Dev nD) (t : Fin cfg1.N) (d) : (dat1 V c).before 1 t d = iblk1 V c 1 t :=
  ((dat1 V c).before_in_eq_fetched 1 rfl (fun _ => rfl) (fun _ _ _ => rfl)
    (fun t => by rw [dat1_after1]; unfold Dat.blockOf iblk1; rw [dat1_A]; try rfl) t d).trans
    (by unfold Dat.fetched Dat.blockOf iblk1; rw [dat1_A]; try rfl)
theorem dat1_before2 (c : Dev nD) (t : Fin cfg1.N) (d) : (dat1 V c).before 2 t d = iblk1 V c 2 t :=
  ((dat1 V c).before_in_eq_fetched 2 rfl (fun _ => rfl) (fun _ _ _ => rfl)
    (fun t => by rw [dat1_after2]; unfold Dat.blockOf iblk1; rw [dat1_A]; try rfl) t d).trans
    (by unfold Dat.fetched Dat.blockOf iblk1; rw [dat1_A]; try rfl)

theorem idle1_3 : ∀ t : Fin cfg1.N, ¬k1_cond4 (grid1.coords t) = 1#1 → cfg1.idle 3 (grid1.coords t) = true :=
  (by decide +kernel)
theorem live1_3 : ∀ t : Fin cfg1.N, k1_cond4 (grid1.coords t) = 1#1 → cfg1.idle 3 (grid1.coords t) = false :=
  (by decide +kernel)

/-- What the body is called with at point `t`, window by window, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))
def post1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The body's triple at any point: which case it is by the point's position in its row block. -/
theorem sound_body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    dat1_after0, dat1_after1, dat1_after2]
  unfold Phi1
  iintro ⟨⟨Hg, Hr, HS0, ⟨%s, %hs, HS1, HS2, HS3⟩⟩, Ho, ⟨%d0, H0⟩, ⟨%d1, H1⟩, ⟨%d2, H2⟩, ⟨%d3, H3⟩⟩
  by_cases h3 : t.val % 4 = 3
  · have h4 := (cond4_iff t).mpr h3
    obtain rfl := hs (by omega)
    rw [show (dat1 V c).leavesExact 3 t = owns (c : Thread nD τ) (st1_3 t) fullShare ((dat1 V c).after 3 t) from by
      unfold Dat.leavesExact; rw [live1_3 t h4], dat1_after3]
    iapply (run_last c (grid1.coords t) _ _ _ _ _ _ _ _ _ _ _ _ _ _ _ _ (iblk1 V c 0 t) (iblk1 V c 1 t) (iblk1 V c 2 t)
      (stAt V c t.val) ((condLater_iff t).mpr (by omega)) (fun h => by have := (condFirst_iff t).mp h; omega) h4 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [Hg Hr HS0 HS1 HS2 HS3]
    · isplitl [Hg]; · iexact Hg
      isplitl [Hr]; · iexact Hr
      isplitl [HS0]; · iexact HS0
      iexists (stTail (grid1.coords t) h4 (iblk1 V c 2 t) (stNext (grid1.coords t) (iblk1 V c 0 t) (iblk1 V c 1 t) (iblk1 V c 2 t) (stAt V c t.val)))
      isplitr; · ipureintro; intro h; omega
      isplitl [HS1]; · iexact HS1
      isplitl [HS2]; · iexact HS2
      iexact HS3
    isplitl [Ho]; · iexact Ho
    isplitl [H0]; · iexact H0
    isplitl [H1]; · iexact H1
    isplitl [H2]; · iexact H2
    unfold outAt
    rw [dif_pos h4, stAt_next V c t (by omega)]
    iexact H3
  have h4 : ¬k1_cond4 (grid1.coords t) = 1#1 := fun h => h3 ((cond4_iff t).mp h)
  rw [Dat.leavesExact_idle (dat1 V c) 3 t (idle1_3 t h4)
    (by cases h : (cfg1.win 3).flush t with
      | false => rfl
      | true => exact absurd ((flush1_3 t).mp h) h3)]
  by_cases h0 : t.val % 4 = 0
  · iapply (run_first c (grid1.coords t) _ _ _ _ _ _ _ _ _ _ _ _ _ _ _ _ (iblk1 V c 0 t) (iblk1 V c 1 t) (iblk1 V c 2 t)
      (fun h => by have := (condLater_iff t).mp h; omega) ((condFirst_iff t).mpr h0) h4 _ Set.univ _)
    isplitl [H0]; · iexact H0
    isplitl [H1]; · iexact H1
    isplitl [H2]; · iexact H2
    isplitl [H3]; · iexact H3
    isplitl [HS0]; · iexact HS0
    isplitl [HS1]; · iexists _; iexact HS1
    isplitl [HS2]; · iexists _; iexact HS2
    isplitl [HS3]; · iexists _; iexact HS3
    iintro ⟨H0, H1, H2, H3, HS0, HS1, HS2, HS3⟩
    isplitl [Hg Hr HS0 HS1 HS2 HS3]
    · isplitl [Hg]; · iexact Hg
      isplitl [Hr]; · iexact Hr
      isplitl [HS0]; · iexact HS0
      iexists (stFirst (grid1.coords t) (iblk1 V c 0 t) (iblk1 V c 1 t) (iblk1 V c 2 t))
      isplitr; · ipureintro; intro _; exact (stAt_first V c t h0).symm
      isplitl [HS1]; · iexact HS1
      isplitl [HS2]; · iexact HS2
      iexact HS3
    isplitl [Ho]; · iexact Ho
    isplitl [H0]; · iexact H0
    isplitl [H1]; · iexact H1
    isplitl [H2]; · iexact H2
    iexists _; iexact H3
  · obtain rfl := hs h0
    iapply (run_next c (grid1.coords t) _ _ _ _ _ _ _ _ _ _ _ _ _ _ _ _ (iblk1 V c 0 t) (iblk1 V c 1 t) (iblk1 V c 2 t)
      (stAt V c t.val) ((condLater_iff t).mpr (by omega)) (fun h => h0 ((condFirst_iff t).mp h)) h4 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [Hg Hr HS0 HS1 HS2 HS3]
    · isplitl [Hg]; · iexact Hg
      isplitl [Hr]; · iexact Hr
      isplitl [HS0]; · iexact HS0
      iexists (stNext (grid1.coords t) (iblk1 V c 0 t) (iblk1 V c 1 t) (iblk1 V c 2 t) (stAt V c t.val))
      isplitr; · ipureintro; intro _; exact (stAt_next V c t h0).symm
      isplitl [HS1]; · iexact HS1
      isplitl [HS2]; · iexact HS2
      iexact HS3
    isplitl [Ho]; · iexact Ho
    isplitl [H0]; · iexact H0
    isplitl [H1]; · iexact H1
    isplitl [H2]; · iexact H2
    iexists _; iexact H3

/-- The library's body obligation for the main call. -/
theorem body_obligation1 (c : Dev nD) : BodyObligation (dat1 V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body1 V c t) rfl .rfl fun _ => .rfl

/-- The region's entry gives the invariant before the first point: the scratch at anything. -/
theorem Phi1_in (c : Dev nD) : (Pipeline.ΦA spec1 c : sProp 𝕄) ⊢ (dat1 V c).Φ 0 := by
  rw [show (dat1 V c).Φ 0 = Phi1 V c 0 from rfl]
  unfold Pipeline.ΦA Phi1
  rw [scopedRest1_eq]
  simp only [owns_whole]
  iintro ⟨⟨R0, R1, R2, R3, HS0, ⟨%s1, HS1⟩, ⟨%s2, HS2⟩, ⟨%s3, HS3⟩⟩, Hg⟩
  isplitl [Hg]; · iexact Hg
  isplitl [R0 R1 R2 R3]
  · isplitl [R0]; · iexact R0
    isplitl [R1]; · iexact R1
    isplitl [R2]; · iexact R2
    iexact R3
  isplitl [HS0]; · iexact HS0
  iexists ((s1, s2, s3) : St F)
  isplitr; · ipureintro; intro h; exact absurd trivial h
  isplitl [HS1]; · iexact HS1
  isplitl [HS2]; · iexact HS2
  iexact HS3

/-- After the last point the invariant gives the region's rest back. -/
theorem Phi1_out (c : Dev nD) : (dat1 V c).Φ (Fin.last cfg1.N) ⊢ (Pipeline.ΦA spec1 c : sProp 𝕄) := by
  rw [show (dat1 V c).Φ (Fin.last cfg1.N) = Phi1 V c cfg1.N from rfl]
  unfold Pipeline.ΦA Phi1
  rw [scopedRest1_eq]
  simp only [owns_whole]
  iintro ⟨Hg, ⟨R0, R1, R2, R3⟩, HS0, ⟨%s, -, HS1, HS2, HS3⟩⟩
  isplitl [R0 R1 R2 R3 HS0 HS1 HS2 HS3]
  · isplitl [R0]; · iexact R0
    isplitl [R1]; · iexact R1
    isplitl [R2]; · iexact R2
    isplitl [R3]; · iexact R3
    isplitl [HS0]; · iexact HS0
    isplitl [HS1]; · iexists _; iexact HS1
    isplitl [HS2]; · iexists _; iexact HS2
    iexists _; iexact HS3
  iexact Hg

end Cert.KernelIdeal.Hand

end
-- ==== Proof.KernelIdeal.Run.lean ====
/-
  The whole program's run: the host's reshapes, the preparing call, the main call, the closing reshape. Every unscoped
  buffer is followed through the four items (`W0` … `W4`), at any reading of the floats, and every semaphore counter
  ends at zero.
-/
module

public import proofs.«01_k».proof.Proof.KernelIdeal.Main
public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg cellOf)

variable {F : FTy → Type} [FloatOps F]

local notation "𝕄" => MT nD τ sig Unit (Elt F) ℕ (UR sig nD τ) ℕ

variable (m : (ℓ : Loc nD τ sig) → Buf (Elt F) ℓ)

/-- The unscoped buffers at launch, after the opening reshapes, after each call, after the closing reshape. -/
def W0 (c : Dev nD) : Valuation τ sig (Elt F) := StableHlo.launchContents m c
def W1 (c : Dev nD) : Valuation τ sig (Elt F) := StableHlo.after hostOps0 (W0 m c)
def U1 (c : Dev nD) (b : Ref sig .tc) : Buf (Elt F) ((c : Thread nD τ).loc b) := W1 m c (Proc.devRef .tc b)
def W2 (c : Dev nD) : Valuation τ sig (Elt F) := Pipeline.afterRegion (dat0 (U1 m) c) (W1 m c)
def U2 (c : Dev nD) (b : Ref sig .tc) : Buf (Elt F) ((c : Thread nD τ).loc b) := W2 m c (Proc.devRef .tc b)
def W3 (c : Dev nD) : Valuation τ sig (Elt F) := Pipeline.afterRegion (dat1 (U2 m) c) (W2 m c)
def W4 (c : Dev nD) : Valuation τ sig (Elt F) := StableHlo.after hostOps2 (W3 m c)

/-- The two calls' proof data, each from the buffers as it finds them. -/
def pdats : (p : Fin 2) → (c : Dev nD) → Dat τ (Elt F) Unit ℕ (UR sig nD τ) ℕ (cfgs p) c
  | 0 => fun c => dat0 (U1 m) c
  | 1 => fun c => dat1 (U2 m) c

/-- No level is assigned and nothing is owed. -/
abbrev noL : GSem nD τ sig → Finset Unit := fun _ => ∅
abbrev noLv : GSem nD τ sig → Unit → ℕ := fun _ _ => 0

/-- What rides beside the buffers: the generator register and the core owing nothing. -/
def rest (c : Dev nD) : sProp 𝕄 :=
  iprop((∃ r, prngReg c r) ∗ ∃ W, owes (c.tc : Thread nD τ) (0 : CellTallies nD τ sig Unit) W)

set_option backward.isDefEq.respectTransparency.types false in
/-- A call's segment record, from the buffers at `A` to the buffers at `B`, for proof data whose arrays start at `A`
    and end in `B`. -/
def regionOf (p : Fin 2) (kit : Pipeline.LaunchFacts (nD := nD) (τ := τ) cfgs p)
    (hbody : ∀ c, Pipeline.BodyObligationLoose (pdats m p c) (defs₀ (F := F)) Variants.none () Set.univ)
    (hshare : ∀ c w, (pdats m p c).share w = fullShare) (howed : ∀ c t, (pdats m p c).owed t = 0)
    (hrec : ∀ c, (pdats m p c).recorded 0 = Set.univ)
    (A : Dev nD → Valuation τ sig (Elt F))
    (hA : ∀ c w, (pdats m p c).A w = A c (Proc.devRef .tc (Pipeline.arrRef (cfgs p).spec w)))
    (hin : ∀ c, Pipeline.ΦA (cfgs p).spec c ⊢ (pdats m p c).Φ 0)
    (hout : ∀ c, (pdats m p c).Φ (Fin.last (cfgs p).N) ⊢ Pipeline.ΦA (cfgs p).spec c) :
    RegionSeg (pcfgs (F := F)) adm (pdats m) () defs₀ Variants.none noL noLv p :=
  have kitP := kit.toP (Val := Elt F)
  { win := kitP.win.to₀
    block_pos := kitP.block_pos
    stage_whole := kitP.stage_whole
    K := PEmpty
    osem := fun k => k.elim
    ho := Pipeline.OwnSemFacts.none _
    hbody := hbody
    hwaits := Pipeline.hwaits_of_owed_zero pcfgs adm (pdats m) () noL noLv p howed
    pre := fun c => iprop(StableHlo.held (c.tc : Thread nD τ) (Pipeline.ucRefs τ sig) (A c) ∗ rest c)
    post := fun c => iprop(StableHlo.held (c.tc : Thread nD τ) (Pipeline.ucRefs τ sig) (Pipeline.afterRegion (pdats m p c) (A c)) ∗ rest c)
    X := fun c => iprop(∃ r, prngReg c r)
    Y := fun c => iprop(∃ r, prngReg c r)
    Z := fun c => Pipeline.unscopedRest (Ix := Unit) (Name := ℕ) (U := UR sig nD τ) (Lvl := ℕ) (cfgs p).spec c (fun b => A c (Proc.devRef .tc b))
    hentry := fun c => by
      rw [Pipeline.ownSems0_none,
        show StableHlo.held (c.tc : Thread nD τ) (Pipeline.ucRefs τ sig) (A c) = unscopedBufs c (fun b => A c (Proc.devRef .tc b))
          from (Pipeline.unscopedBufs_held (Ix := Unit) (Name := ℕ) (U := UR sig nD τ) (Lvl := ℕ) c (A c)).symm]
      have hsplit := Pipeline.arrays_of_unscopedBufs (p := p) pcfgs adm (pdats m) kitP.win kitP.arr_whole c (hshare c)
        (fun b => A c (Proc.devRef .tc b)) (fun w => hA c w)
      unfold rest
      iintro ⟨⟨Hub, Hp, ⟨%W, HO⟩⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [howed c 0]
        iexists W; isplitr; · ipureintro; intro _ _; exact Or.inl (hrec c ▸ Set.mem_univ _)
        iexact HO
      isplitl [Hp]; · iexact Hp
      iexact Hrest
    hin := fun c => (show _ ⊢ Pipeline.ΦA (cfgs p).spec c from by
      unfold Pipeline.ΦA; iintro ⟨Hp, -, Hr⟩
      isplitl [Hr] <;> iassumption).trans (hin c)
    hout := fun c => (hout c).trans (by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays (p := p) pcfgs adm (Ix := Unit) (Name := ℕ) (U := UR sig nD τ) (Lvl := ℕ)
        kitP.win kitP.arr_whole c (pdats m) (hshare c)
        (fun b => A c (Proc.devRef .tc b)) (fun b => Pipeline.afterRegion (pdats m p c) (A c) (Proc.devRef .tc b))
        ((pdats m p c).arrAt · (cfgs p).N)
        (fun w => (Pipeline.afterRegion_arr (pdats m p c) (A c) kit.win.arr_inj w).symm)
        (fun b hb => Pipeline.afterRegion_of_not_arr (pdats m p c) (A c)
          fun w h => hb (h ▸ Finset.mem_image.mpr ⟨w, Finset.mem_univ _, rfl⟩))
      rw [show StableHlo.held (c.tc : Thread nD τ) (Pipeline.ucRefs τ sig) (Pipeline.afterRegion (pdats m p c) (A c))
          = unscopedBufs c (fun b => Pipeline.afterRegion (pdats m p c) (A c) (Proc.devRef .tc b))
          from (Pipeline.unscopedBufs_held (Ix := Unit) (Name := ℕ) (U := UR sig nD τ) (Lvl := ℕ) c _).symm]
      unfold rest
      iintro ⟨Ha, HO, Hp, Hrest⟩
      imodintro
      isplitl [Ha Hrest]
      · iapply hjoin; isplitl [Ha] <;> iassumption
      isplitl [Hp]; · iexact Hp
      unfold Dat.owesAt Pipeline.owesWithin
      rw [howed c (Fin.last _)]
      icases HO with ⟨%W, -, HO⟩; iexists W; iexact HO }

/-- The preparing call's record and the main call's. -/
def reg0 : RegionSeg (pcfgs (F := F)) adm (pdats m) () defs₀ Variants.none noL noLv 0 :=
  regionOf m 0 launch0 (fun c => (body_obligation0 (U1 m) c).loose)
    (fun c => (dat0 (U1 m) c).share_full fun _ => rfl) (fun _ _ => rfl) (fun _ => rfl) (W1 m)
    (fun c w => dat0_A (U1 m) c w) (fun _ => .rfl) (fun _ => .rfl)
def reg1 : RegionSeg (pcfgs (F := F)) adm (pdats m) () defs₀ Variants.none noL noLv 1 :=
  regionOf m 1 launch1 (fun c => (body_obligation1 (U2 m) c).loose)
    (fun c => (dat1 (U2 m) c).share_full fun _ => rfl) (fun _ _ => rfl) (fun _ => rfl) (W2 m)
    (fun c w => dat1_A (U2 m) c w) (fun c => Phi1_in (U2 m) c) (fun c => Phi1_out (U2 m) c)

/-- The opening and the closing stretch of host operations. -/
def host0 : HostSeg (Ix := Unit) (Name := ℕ) (U := UR sig nD τ) (Lvl := ℕ) (pcfgs (F := F)) defs₀ Variants.none noL noLv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) rest
def host3 : HostSeg (Ix := Unit) (Name := ℕ) (U := UR sig nD τ) (Lvl := ℕ) (pcfgs (F := F)) defs₀ Variants.none noL noLv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

/-- The program's items in order. -/
abbrev items : List (Seg (pcfgs (F := F)) adm (pdats m) () defs₀ Variants.none noL noLv) :=
  [.host (host0 m), .region (reg0 m), .region (reg1 m), .host (host3 m)]

set_option backward.isDefEq.respectTransparency.types false in
/-- Every execution ends, without fault, with every unscoped buffer at `W4` and every counter at zero. -/
theorem run (ρ : Dev nD → PrngReg) :
    θ_run defs (onTc (τ := τ) (main (F := F))) ⟨m, fun _ => 0, ρ⟩ (fun r =>
      (∀ (c : Dev nD) (b : Ref sig .tc), b.isScoped = false →
        r.2.mem ((c.tc : Thread nD τ).loc b) = W4 m c (Proc.devRef .tc b)) ∧ r.2.sem = fun _ => 0) := by
  refine Pipeline.θ_run_regions_kit_dev_sems (pcfgs (F := F)) adm (pdats m) () cellOf_inj emb₁ defs₀ Variants.none noL noLv m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [items, Seg.pipes_host, Seg.pipes_region, Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ rest c))
    (Tₙ := fun c => StableHlo.held (c.tc : Thread nD τ) (Pipeline.ucRefs τ sig) (W4 m c))
    (hch := fun c => ⟨.rfl, .rfl, .rfl, .rfl,
      (show iprop(StableHlo.held (c.tc : Thread nD τ) (Pipeline.ucRefs τ sig) (W4 m c) ∗ rest c) ⊢ (_ : sProp 𝕄) from by
        unfold rest
        iintro ⟨Hh, -, HO⟩
        isplitl [Hh] <;> iassumption)⟩)
    (hinit := by
      refine Pipeline.initEach noL noLv fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      unfold rest
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = W4 m c b)
    (hfin := fun c s' => by
      unfold StableHlo.held
      iintro ⟨Hh, HSI⟩
      ihave Hr := (pointsTo_read_all (Pipeline.ucRefs τ sig) (fun b => ((c.tc : Thread nD τ).1, b)) (W4 m c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

end Cert.KernelIdeal.Hand

end
-- ==== Proof.KernelIdeal.Final.lean ====
/-
  What the program's run says of the arguments and of the result: the arguments end as launched, the result is the
  closing reshape of the main call's array, and the arrays the two calls read are named.
-/
module

public import proofs.«01_k».proof.Proof.KernelIdeal.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)

variable {F : FTy → Type} [FloatOps F]

variable (m : (ℓ : Loc nD τ sig) → Buf (Elt F) ℓ)

/-- A buffer that no host operation writes and no call has among its arrays ends as launched. -/
theorem W4_of_not (c : Dev nD) (b : Ref sig .tc) (h2 : b ∉ hostOps2_W) (hb1 : ∀ w, b ≠ Pipeline.arrRef spec1 w)
    (hb0 : ∀ w, b ≠ Pipeline.arrRef spec0 w) (h0 : b ∉ hostOps0_W) :
    W4 m c (Proc.devRef .tc b) = m ((c : Thread nD τ).loc b) :=
  (StableHlo.after_of_writes_sub hostOps2 _ hostOps2_writes h2).trans <|
    (Pipeline.afterRegion_of_not_arr (dat1 (U2 m) c) (W2 m c) hb1).trans <|
    (Pipeline.afterRegion_of_not_arr (dat0 (U1 m) c) (W1 m c) hb0).trans <|
    (StableHlo.after_of_writes_sub hostOps0 _ hostOps0_writes h0).trans rfl

theorem W4_arg0 (c : Dev nD) : W4 m c (Proc.devRef .tc main_arg0) = m ((c : Thread nD τ).loc main_arg0) :=
  W4_of_not m c main_arg0 (by decide) (by decide) (by decide) (by decide)
theorem W4_arg2 (c : Dev nD) : W4 m c (Proc.devRef .tc main_arg2) = m ((c : Thread nD τ).loc main_arg2) :=
  W4_of_not m c main_arg2 (by decide) (by decide) (by decide) (by decide)
/-- The codebook is an array of the preparing call, which only reads it. -/
theorem W4_arg1 (c : Dev nD) : W4 m c (Proc.devRef .tc main_arg1) = m ((c : Thread nD τ).loc main_arg1) :=
  (StableHlo.after_of_writes_sub hostOps2 _ hostOps2_writes (by decide : main_arg1 ∉ hostOps2_W)).trans <|
    (Pipeline.afterRegion_of_not_arr (dat1 (U2 m) c) (W2 m c) (by decide : ∀ w, main_arg1 ≠ Pipeline.arrRef spec1 w)).trans <|
    (Pipeline.afterRegion_arr (dat0 (U1 m) c) (W1 m c) launch0.win.arr_inj 0).trans <|
    ((dat0 (U1 m) c).arrAt_in 0 rfl _).trans <|
    (dat0_A (U1 m) c 0).trans <|
    (StableHlo.after_of_writes_sub hostOps0 _ hostOps0_writes (by decide : main_arg1 ∉ hostOps0_W)).trans rfl

/-- The frame: the arguments end as launched and every semaphore counter is zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs (onTc (τ := τ) (main (F := F))) ⟨m, fun _ => 0, ρ⟩).mono (fun _ h =>
    ⟨fun c => ⟨(h.1 c main_arg0 rfl).trans (W4_arg0 m c), (h.1 c main_arg1 rfl).trans (W4_arg1 m c),
      (h.1 c main_arg2 rfl).trans (W4_arg2 m c)⟩, h.2⟩) (run m ρ)

end Cert.KernelIdeal.Hand

end
-- ==== Proof.ReferenceIdeal.Run.lean ====
/-
  The reference's run: its operations in order, and what the result holds as a term in the three arguments. Proved at
  any reading of the floats.
-/
module

public import proofs.«01_k».proof.Proof.Gen.ReferenceIdeal
public import Idealize.ShloMosaic.Lib.StableHlo.Run

@[expose] public section

set_option maxRecDepth 8192

noncomputable section

namespace Cert.ReferenceIdeal.Hand

open Cert.ReferenceIdeal Cert.ReferenceIdeal.Facts₀ Cert.ReferenceIdeal.Facts
open Idealize.ShloMosaic Idealize.ShloMosaic.TcCoe Idealize.ShloMosaic.StableHlo Idealize.SL.Sem

variable {F : FTy → Type} [FloatOps F]

/-- The operations of the codebook and of the rows. -/
abbrev opsEmb : List (HloOp τ sig (Elt F)) :=
  [ StableHlo.nullary main_cst (constant S_ .f32 0x3727C5AC#32),
    StableHlo.unary main_cst main_v0 (broadcastInDim S8192 ![] bcast_S_S8192 : (⟨S_, .f32⟩ : BufTy).Contents (Elt F) → (⟨S8192, .f32⟩ : BufTy).Contents (Elt F)),
    StableHlo.binary main_arg2 main_v0 main_v1 (maximumf : (⟨S8192, .f32⟩ : BufTy).Contents (Elt F) → (⟨S8192, .f32⟩ : BufTy).Contents (Elt F) → (⟨S8192, .f32⟩ : BufTy).Contents (Elt F)),
    StableHlo.unary main_v1 main_v2 (broadcastInDim S8192x1 ![0] bcast_S8192_S8192x1_0 : (⟨S8192, .f32⟩ : BufTy).Contents (Elt F) → (⟨S8192x1, .f32⟩ : BufTy).Contents (Elt F)),
    StableHlo.unary main_v2 main_v3 (broadcastInDim S8192x256 ![0, 1] bcast_S8192x1_S8192x256_0_1 : (⟨S8192x1, .f32⟩ : BufTy).Contents (Elt F) → (⟨S8192x256, .f32⟩ : BufTy).Contents (Elt F)),
    StableHlo.binary main_arg1 main_v3 main_v4 (Host.divf : (⟨S8192x256, .f32⟩ : BufTy).Contents (Elt F) → (⟨S8192x256, .f32⟩ : BufTy).Contents (Elt F) → (⟨S8192x256, .f32⟩ : BufTy).Contents (Elt F)),
    StableHlo.reshape main_arg0 main_v5 (rfl : (.f32 : EltTy) = .f32) shapeCasts_S16x1024x256_S16384x256 ]
/-- The operations of the distances. -/
abbrev opsDist : List (HloOp τ sig (Elt F)) :=
  [ StableHlo.binary main_v5 main_v5 main_v6 (mulf : (⟨S16384x256, .f32⟩ : BufTy).Contents (Elt F) → (⟨S16384x256, .f32⟩ : BufTy).Contents (Elt F) → (⟨S16384x256, .f32⟩ : BufTy).Contents (Elt F)),
    StableHlo.nullary main_cst_0 (constant S_ .f32 0x00000000#32),
    StableHlo.binary main_v6 main_cst_0 main_v7 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v7 main_v8 (broadcastInDim S16384x1 ![0] bcast_S16384_S16384x1_0 : (⟨S16384, .f32⟩ : BufTy).Contents (Elt F) → (⟨S16384x1, .f32⟩ : BufTy).Contents (Elt F)),
    StableHlo.binary main_v4 main_v4 main_v9 (mulf : (⟨S8192x256, .f32⟩ : BufTy).Contents (Elt F) → (⟨S8192x256, .f32⟩ : BufTy).Contents (Elt F) → (⟨S8192x256, .f32⟩ : BufTy).Contents (Elt F)),
    StableHlo.nullary main_cst_1 (constant S_ .f32 0x00000000#32),
    StableHlo.binary main_v9 main_cst_1 main_v10 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v10 main_v11 (broadcastInDim S1x8192 ![1] bcast_S8192_S1x8192_1 : (⟨S8192, .f32⟩ : BufTy).Contents (Elt F) → (⟨S1x8192, .f32⟩ : BufTy).Contents (Elt F)),
    StableHlo.unary main_v8 main_v12 (broadcastInDim S16384x8192 ![0, 1] bcast_S16384x1_S16384x8192_0_1 : (⟨S16384x1, .f32⟩ : BufTy).Contents (Elt F) → (⟨S16384x8192, .f32⟩ : BufTy).Contents (Elt F)),
    StableHlo.unary main_v11 main_v13 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v12 main_v13 main_v14 (addf : (⟨S16384x8192, .f32⟩ : BufTy).Contents (Elt F) → (⟨S16384x8192, .f32⟩ : BufTy).Contents (Elt F) → (⟨S16384x8192, .f32⟩ : BufTy).Contents (Elt F)),
    StableHlo.unary main_v4 main_v15 ((transpose S256x8192 [1, 0] · transposes_S8192x256_S256x8192_1_0) : (⟨S8192x256, .f32⟩ : BufTy).Contents (Elt F) → (⟨S256x8192, .f32⟩ : BufTy).Contents (Elt F)),
    StableHlo.binary main_v5 main_v15 main_v16 ((fun l r => Host.dotGeneral dot_S16384x256_S256x8192_S16384x8192_1_0_0_1_n_n none l r) : (⟨S16384x256, .f32⟩ : BufTy).Contents (Elt F) → (⟨S256x8192, .f32⟩ : BufTy).Contents (Elt F) → (⟨S16384x8192, .f32⟩ : BufTy).Contents (Elt F)),
    StableHlo.nullary main_cst_2 (constant S_ .f32 0x40000000#32),
    StableHlo.unary main_cst_2 main_v17 (broadcastInDim S16384x8192 ![] bcast_S_S16384x8192 : (⟨S_, .f32⟩ : BufTy).Contents (Elt F) → (⟨S16384x8192, .f32⟩ : BufTy).Contents (Elt F)),
    StableHlo.binary main_v17 main_v16 main_v18 (mulf : (⟨S16384x8192, .f32⟩ : BufTy).Contents (Elt F) → (⟨S16384x8192, .f32⟩ : BufTy).Contents (Elt F) → (⟨S16384x8192, .f32⟩ : BufTy).Contents (Elt F)),
    StableHlo.binary main_v14 main_v18 main_v19 (subf : (⟨S16384x8192, .f32⟩ : BufTy).Contents (Elt F) → (⟨S16384x8192, .f32⟩ : BufTy).Contents (Elt F) → (⟨S16384x8192, .f32⟩ : BufTy).Contents (Elt F)),
    StableHlo.nullary main_cst_3 (constant S_ .f32 0x00000000#32),
    StableHlo.unary main_cst_3 main_v20 (broadcastInDim S16384x8192 ![] bcast_S_S16384x8192 : (⟨S_, .f32⟩ : BufTy).Contents (Elt F) → (⟨S16384x8192, .f32⟩ : BufTy).Contents (Elt F)),
    StableHlo.binary main_v19 main_v20 main_v21 (maximumf : (⟨S16384x8192, .f32⟩ : BufTy).Contents (Elt F) → (⟨S16384x8192, .f32⟩ : BufTy).Contents (Elt F) → (⟨S16384x8192, .f32⟩ : BufTy).Contents (Elt F)),
    StableHlo.unary main_v21 main_v22 (Host.sqrt : (⟨S16384x8192, .f32⟩ : BufTy).Contents (Elt F) → (⟨S16384x8192, .f32⟩ : BufTy).Contents (Elt F)) ]
/-- The argmin's reduction, the position's half of it. -/
def argOf (x : FVec F S16384x8192 .f32) (y : S16384x8192.Idx → BitVec 32) (u : FVec F S_ .f32) (v : S_.Idx → BitVec 32) :
    S16384.Idx → BitVec 32 := fun j => (Host.argReduce reducer_argmin_f32_i32 x y u v reducesTo_S16384x8192_S16384_d1 h_S_ j).2

/-- The argmin's operations, in the call's place. -/
abbrev opsArg : List (HloOp τ sig (Elt F)) :=
  [ StableHlo.nullary main_call0_v0 (iotaInDim S16384x8192 32 1),
    StableHlo.nullary main_call0_cst (constant S_ .f32 0x7F800000#32),
    StableHlo.nullary main_call0_c (constantI S_ 32 0#32),
    StableHlo.quaternary main_v22 main_call0_v0 main_call0_cst main_call0_c main_call0_v1_0 ((fun x y u v j => (Host.argReduce reducer_argmin_f32_i32 x y u v reducesTo_S16384x8192_S16384_d1 h_S_ j).1) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .f32⟩ : BufTy).Contents (Elt F)),
    StableHlo.quaternary main_v22 main_call0_v0 main_call0_cst main_call0_c main_v23 (argOf : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .i32⟩ : BufTy).Contents (Elt F)) ]
/-- The closing reshape. -/
abbrev opsLast : List (HloOp τ sig (Elt F)) :=
  [ StableHlo.reshape main_v23 main_v24 (rfl : (.i32 : EltTy) = .i32) shapeCasts_S16384_S16x1024 ]
/-- The reference's operations. -/
abbrev ops : List (HloOp τ sig (Elt F)) := opsEmb ++ (opsDist ++ (opsArg ++ opsLast))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., unary_bufs_sub .., binary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., reshape_bufs_sub ..⟩

/-- The codebook: the sums over the counts, a count below the threshold replaced by it. -/
def embOf (es : FVec F S8192x256 .f32) (u : FVec F S8192 .f32) : FVec F S8192x256 .f32 :=
  Host.divf es (broadcastInDim S8192x256 ![0, 1] bcast_S8192x1_S8192x256_0_1
    (broadcastInDim S8192x1 ![0] bcast_S8192_S8192x1_0
      (maximumf u (broadcastInDim S8192 ![] bcast_S_S8192 (constant S_ .f32 0x3727C5AC#32)))))

/-- The hidden states as rows. -/
def flatOf (h : FVec F S16x1024x256 .f32) : FVec F S16384x256 .f32 :=
  shapeCast S16384x256 h shapeCasts_S16x1024x256_S16384x256

/-- The squared distances as the reference spells them: the rows' squares and the entries', less twice the products. -/
def sqOf (x : FVec F S16384x256 .f32) (e : FVec F S8192x256 .f32) : FVec F S16384x8192 .f32 :=
  subf
    (addf
      (broadcastInDim S16384x8192 ![0, 1] bcast_S16384x1_S16384x8192_0_1
        (broadcastInDim S16384x1 ![0] bcast_S16384_S16384x1_0
          (Host.reduceAdd (mulf x x) (constant S_ .f32 0x00000000#32) reducesTo_S16384x256_S16384_d1 h_S_)))
      (broadcastInDim S16384x8192 ![0, 1] bcast_S1x8192_S16384x8192_0_1
        (broadcastInDim S1x8192 ![1] bcast_S8192_S1x8192_1
          (Host.reduceAdd (mulf e e) (constant S_ .f32 0x00000000#32) reducesTo_S8192x256_S8192_d1 h_S_))))
    (mulf (broadcastInDim S16384x8192 ![] bcast_S_S16384x8192 (constant S_ .f32 0x40000000#32))
      (Host.dotGeneral dot_S16384x256_S256x8192_S16384x8192_1_0_0_1_n_n none x
        (transpose S256x8192 [1, 0] e transposes_S8192x256_S256x8192_1_0)))

/-- The distances: the roots of the squared distances, clipped below at zero. -/
def distOf (x : FVec F S16384x256 .f32) (e : FVec F S8192x256 .f32) : FVec F S16384x8192 .f32 :=
  Host.sqrt (maximumf (sqOf x e) (broadcastInDim S16384x8192 ![] bcast_S_S16384x8192 (constant S_ .f32 0x00000000#32)))

/-- Each row's position of the smallest distance. -/
def idxOf (d : FVec F S16384x8192 .f32) : S16384.Idx → BitVec 32 :=
  argOf d (iotaInDim S16384x8192 32 1) (constant S_ .f32 0x7F800000#32) (constantI S_ 32 0#32)

/-- The reference's result. -/
def refOut (h : FVec F S16x1024x256 .f32) (es : FVec F S8192x256 .f32) (u : FVec F S8192 .f32) : S16x1024.Idx → BitVec 32 :=
  shapeCast S16x1024 (idxOf (distOf (flatOf h) (embOf es u))) shapeCasts_S16384_S16x1024

theorem emb_v4 (V : Valuation τ sig (Elt F)) :
    after opsEmb V (Proc.devRef .tc main_v4) = embOf (V (Proc.devRef .tc main_arg1)) (V (Proc.devRef .tc main_arg2)) := by
  simp only [opsEmb]
  after_results_simp
  rfl
theorem emb_v5 (V : Valuation τ sig (Elt F)) :
    after opsEmb V (Proc.devRef .tc main_v5) = flatOf (V (Proc.devRef .tc main_arg0)) := by
  simp only [opsEmb]
  after_results_simp
  rfl
set_option maxHeartbeats 1000000 in
theorem dist_v22 (V : Valuation τ sig (Elt F)) :
    after opsDist V (Proc.devRef .tc main_v22) = distOf (V (Proc.devRef .tc main_v5)) (V (Proc.devRef .tc main_v4)) := by
  simp only [opsDist]
  after_results_simp
  rfl
theorem arg_v23 (V : Valuation τ sig (Elt F)) :
    after opsArg V (Proc.devRef .tc main_v23) = idxOf (V (Proc.devRef .tc main_v22)) := by
  simp only [opsArg]
  after_results_simp
  rfl
theorem last_v24 (V : Valuation τ sig (Elt F)) :
    after opsLast V (Proc.devRef .tc main_v24)
      = shapeCast (α := BitVec 32) S16x1024 (V (Proc.devRef .tc main_v23)) shapeCasts_S16384_S16x1024 := by
  rw [opsLast, after_cons, after_nil,
    reshape_result (Val := Elt F) (τ := τ) main_v23 main_v24 rfl shapeCasts_S16384_S16x1024 _ _ V]
  rfl

/-- Two lines of operations in a row. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

theorem after_out (V : Valuation τ sig (Elt F)) :
    after ops V (Proc.devRef .tc main_v24)
      = refOut (V (Proc.devRef .tc main_arg0)) (V (Proc.devRef .tc main_arg1)) (V (Proc.devRef .tc main_arg2)) := by
  rw [ops, after_two, after_two, after_two, last_v24, arg_v23, dist_v22, emb_v4, emb_v5]
  rfl

/-- The references the operations write. -/
abbrev written : List (Ref sig .tc) := [main_cst, main_v0, main_v1, main_v2, main_v3, main_v4, main_v5, main_v6, main_cst_0, main_v7, main_v8, main_v9, main_cst_1, main_v10, main_v11, main_v12, main_v13, main_v14, main_v15, main_v16, main_cst_2, main_v17, main_v18, main_v19, main_cst_3, main_v20, main_v21, main_v22, main_call0_v0, main_call0_cst, main_call0_c, main_call0_v1_0, main_v23, main_v24]
theorem ops_writes : (ops : List (HloOp τ sig (Elt F))).Forall fun op => op.writes ⊆ (written.map (Proc.devRef (τ := τ) .tc)).toFinset :=
  forall_writes_sub_of_map rfl
/-- No operation writes an argument. -/
theorem after_args (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2) :=
  ⟨after_of_writes_sub ops _ ops_writes (by decide : main_arg0 ∉ written),
    after_of_writes_sub ops _ ops_writes (by decide : main_arg1 ∉ written),
    after_of_writes_sub ops _ ops_writes (by decide : main_arg2 ∉ written)⟩

/-- Every execution of the reference ends with the result at `refOut` of the arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v24).trans (after_out _),
      (h c main_arg0).trans (after_args _).1, (h c main_arg1).trans (after_args _).2.1,
      (h c main_arg2).trans (after_args _).2.2⟩)
    (run_seq scopedRefs_eq scopedSems_eq defs main (fun _ => ops) main_eq (fun _ => ops_sub) m ρ)

end Cert.ReferenceIdeal.Hand

end
-- ==== Proof.Math.FirstMin.lean ====
/-
  The first place at which a function of a codebook index is least, over a stretch of the indices: what a block of the
  kernel finds, how two neighbouring stretches are merged, and what a fold over (value, index) pairs finds.
-/
module

public import Idealize.ShloMosaic.Lib.Pointwise
public import Idealize.ShloMosaic.Lib.StableHlo.Predicate

@[expose] public section

noncomputable section

namespace Cert.Nearest
open Idealize.ShloMosaic

/-- Among the indices `a ≤ k < n`, `i` is the first at which `g` is least. -/
structure FirstMin {N : ℕ} (g : Fin N → EReal) (a n : ℕ) (i : Fin N) : Prop where
  lower : a ≤ i.val
  upper : i.val < n
  least : ∀ k : Fin N, a ≤ k.val → k.val < n → g i ≤ g k
  first : ∀ k : Fin N, a ≤ k.val → k.val < i.val → g i < g k

theorem FirstMin.unique {N : ℕ} {g : Fin N → EReal} {a n : ℕ} {i j : Fin N} (hi : FirstMin g a n i)
    (hj : FirstMin g a n j) : i = j := by
  rcases lt_trichotomy i.val j.val with h | h | h
  · exact absurd (hi.least j hj.lower hj.upper) (not_le.2 (hj.first i hi.lower h))
  · exact Fin.ext h
  · exact absurd (hj.least i hi.lower hi.upper) (not_le.2 (hi.first j hj.lower h))

/-- A later stretch whose least value is strictly below takes over. -/
theorem FirstMin.take {N : ℕ} {g : Fin N → EReal} {a n n' : ℕ} {i j : Fin N} (hi : FirstMin g a n i)
    (hj : FirstMin g n n' j) (h : g j < g i) (han : a ≤ n) : FirstMin g a n' j where
  lower := han.trans hj.lower
  upper := hj.upper
  least k hk hk' := by
    rcases lt_or_ge k.val n with hn | hn
    · exact h.le.trans (hi.least k hk hn)
    · exact hj.least k hn hk'
  first k hk hk' := by
    rcases lt_or_ge k.val n with hn | hn
    · exact h.trans_le (hi.least k hk hn)
    · exact hj.first k hn hk'

/-- Otherwise the earlier one stays. -/
theorem FirstMin.keep {N : ℕ} {g : Fin N → EReal} {a n n' : ℕ} {i j : Fin N} (hi : FirstMin g a n i)
    (hj : FirstMin g n n' j) (h : ¬ g j < g i) : FirstMin g a n' i where
  lower := hi.lower
  upper := hi.upper.trans_le (hj.lower.trans hj.upper.le)
  least k hk hk' := by
    rcases lt_or_ge k.val n with hn | hn
    · exact hi.least k hk hn
    · exact (not_lt.1 h).trans (hj.least k hn hk')
  first := hi.first

/-- The running minimum from `⊤` over a nonempty finite type is attained, and bounds every value. -/
theorem fold_min_spec {n : ℕ} (f : Fin (n + 1) → EReal) :
    (∃ k, Finset.univ.fold min ⊤ f = f k) ∧ ∀ k, Finset.univ.fold min ⊤ f ≤ f k := by
  have e : Finset.univ.fold min ⊤ f = Finset.univ.inf f := rfl
  rw [e]
  refine ⟨?_, fun k => Finset.inf_le (Finset.mem_univ k)⟩
  obtain ⟨k, -, hk⟩ := Finset.exists_mem_eq_inf Finset.univ Finset.univ_nonempty f
  exact ⟨k, hk⟩

/-- A signed running minimum of words that are small numbers is the least of the numbers. -/
theorem fold_minsi_ofNat {ι : Type} [DecidableEq ι] (s : Finset ι) (f : ι → ℕ) (c : ℕ) (hc : c < 2 ^ 31)
    (hf : ∀ k, f k < 2 ^ 31) :
    s.fold IntOp.minsi (BitVec.ofNat 32 c) (fun k => BitVec.ofNat 32 (f k)) = BitVec.ofNat 32 (s.fold min c f)
      ∧ s.fold min c f < 2 ^ 31 := by
  induction s using Finset.induction_on with
  | empty => exact ⟨rfl, hc⟩
  | insert a s ha ih =>
    rw [Finset.fold_insert ha, Finset.fold_insert ha, ih.1]
    refine ⟨?_, lt_of_le_of_lt (min_le_left _ _) (hf a)⟩
    have hs := StableHlo.Predicate.slt_ofNat_iff (f a) (s.fold min c f) (hf a) ih.2
    rw [StableHlo.Predicate.ofBool_eq_one_iff] at hs
    unfold IntOp.minsi
    by_cases h : f a < s.fold min c f
    · rw [if_pos (hs.2 h), min_eq_left h.le]
    · rw [if_neg (fun h' => h (hs.1 h')), min_eq_right (not_lt.1 h)]

/-- What a block of scores gives: its least score, and the first place of it, found as the least place whose score
    equals the least. -/
theorem block_spec {n : ℕ} (hn : n < 2 ^ 31) (big top : ℕ) (f : Fin (n + 1) → EReal) (hb : n < big) (hb' : big < 2 ^ 31)
    (ht : n < top) (ht' : top < 2 ^ 31) :
    ∃ i : Fin (n + 1), Finset.univ.fold min ⊤ f = f i ∧ (∀ k, f i ≤ f k) ∧ (∀ k, k.val < i.val → f i < f k) ∧
      Finset.univ.fold IntOp.minsi (BitVec.ofNat 32 top) (fun k : Fin (n + 1) =>
        if f k = Finset.univ.fold min ⊤ f then BitVec.ofNat 32 k.val else BitVec.ofNat 32 big) = BitVec.ofNat 32 i.val := by
  obtain ⟨⟨k₀, hk₀⟩, hle⟩ := fold_min_spec f
  generalize hM : Finset.univ.fold min ⊤ f = M at *
  obtain ⟨i, hi, hmin⟩ := Finset.exists_min_image (Finset.univ.filter fun k => f k = M) (fun k => k.val)
    ⟨k₀, by simp [hk₀]⟩
  have hiM : f i = M := (Finset.mem_filter.1 hi).2
  refine ⟨i, hiM.symm, fun k => hiM ▸ hle k, fun k hk => ?_, ?_⟩
  · refine lt_of_le_of_ne (hiM ▸ hle k) fun h => ?_
    exact absurd (hmin k (Finset.mem_filter.2 ⟨Finset.mem_univ k, h.symm.trans hiM⟩)) (not_le.2 hk)
  · have e : (fun k : Fin (n + 1) => if f k = M then BitVec.ofNat 32 k.val else BitVec.ofNat 32 big)
        = fun k => BitVec.ofNat 32 (if f k = M then k.val else big) := by
      funext k; split <;> rfl
    rw [e, (fold_minsi_ofNat _ _ top ht' fun k => by split <;> omega).1]
    congr 1
    refine le_antisymm ((Finset.fold_min_le _).2 (.inr ⟨i, Finset.mem_univ i, by rw [if_pos hiM]⟩)) ?_
    refine (Finset.le_fold_min _).2 ⟨by omega, fun k _ => ?_⟩
    split
    · next h => exact hmin k (Finset.mem_filter.2 ⟨Finset.mem_univ k, h⟩)
    · omega

/-- One (value, index) pair comes before another: by value, then by index read as a signed word. -/
def Before (p q : EReal × BitVec 32) : Prop := p.1 < q.1 ∨ (p.1 = q.1 ∧ p.2.toInt ≤ q.2.toInt)

theorem Before.refl (p : EReal × BitVec 32) : Before p p := .inr ⟨rfl, le_rfl⟩

theorem Before.trans {p q r : EReal × BitVec 32} (h : Before p q) (h' : Before q r) : Before p r := by
  rcases h with h | ⟨h, g⟩ <;> rcases h' with h' | ⟨h', g'⟩
  · exact .inl (h.trans h')
  · exact .inl (h' ▸ h)
  · exact .inl (h ▸ h')
  · exact .inr ⟨h.trans h', g.trans g'⟩

/-- A fold that keeps, of the pair so far and the next one, one that comes before both, ends at the first pair or at one
    of the list, and that one comes before all. -/
theorem foldl_before (f : EReal × BitVec 32 → EReal × BitVec 32 → EReal × BitVec 32)
    (hf : ∀ p q, (f p q = p ∨ f p q = q) ∧ Before (f p q) p ∧ Before (f p q) q) (l : List (EReal × BitVec 32)) :
    ∀ z, (l.foldl f z = z ∨ l.foldl f z ∈ l) ∧ Before (l.foldl f z) z ∧ ∀ p ∈ l, Before (l.foldl f z) p := by
  induction l with
  | nil => exact fun z => ⟨.inl rfl, .refl z, by simp⟩
  | cons a l ih =>
    intro z
    obtain ⟨h1, h2, h3⟩ := ih (f z a)
    obtain ⟨g1, g2, g3⟩ := hf z a
    refine ⟨?_, h2.trans g2, ?_⟩
    · rcases h1 with h1 | h1
      · rw [List.foldl_cons, h1]
        rcases g1 with g1 | g1
        · exact .inl g1
        · exact .inr (by rw [g1]; exact List.mem_cons_self)
      · exact .inr (List.mem_cons_of_mem _ h1)
    · intro p hp
      rcases List.mem_cons.1 hp with rfl | hp
      · exact h2.trans g3
      · exact h3 p hp

end Cert.Nearest
-- ==== Proof.KernelIdeal.Pay.lean ====
/-
  The payloads of the two bodies, read at an index over the extended reals: the codebook and its norms, the products, and
  the least score of a block with its place; and the running minimum that the body keeps for each row.
-/
module

public import proofs.«01_k».proof.Proof.Gen.KernelIdeal.Skeleton
public import proofs.«01_k».proof.Proof.Math.FirstMin

@[expose] public section

set_option maxRecDepth 16384

noncomputable section

namespace Cert.KernelIdeal.Hand
open Idealize Idealize.ShloMosaic Cert.KernelIdeal Cert.KernelIdeal.Gen Cert.Nearest

/-- The smallest cluster size divided by: the constant 10⁻⁵. -/
abbrev eps : EReal := Ideal.ofBits .f32 0x3727C5AC#32
/-- The factor of the products: the constant −2. -/
abbrev negTwo : EReal := Ideal.ofBits .f32 0xC0000000#32

theorem ofBits_inf : Ideal.ofBits .f32 0x7F800000#32 = ⊤ := by simp [Ideal.ofBits, Ideal.ieee]

/-! ## The preparing body -/

theorem emb_apply (x0 : Vec Ideal S8192x256 .f32) (x1 : Vec Ideal S8192x1 .f32) (k : Fin 8192) (d : Fin 256) :
    k0_pay1 x0 x1 (ix2 k d) = Ideal.div (x0 (ix2 k d)) (max (x1 (ix2 k 0)) eps) := by
  pointwise [k0_pay1]

theorem norm_apply (x0 : Vec Ideal S8192x256 .f32) (x1 : Vec Ideal S8192x1 .f32) (k : Fin 8192) :
    k0_pay2 x0 x1 (ix2 0 k) = ∑ d : Fin 256, k0_pay1 x0 x1 (ix2 k d) * k0_pay1 x0 x1 (ix2 k d) := by
  pointwise [k0_pay2]

theorem emb2_apply (x0 : Vec Ideal S8192x256 .f32) (x1 : Vec Ideal S8192x1 .f32) (k : Fin 8192) (d : Fin 256) :
    k0_pay3 x0 x1 (ix2 k d) = negTwo * k0_pay1 x0 x1 (ix2 k d) := by
  pointwise [k0_pay3]

/-! ## The main body: one block -/

theorem prod_apply (a : Vec Ideal S512x256 .f32) (e : Vec Ideal S1024x256 .f32) (r : Fin 512) (l : Fin 1024) :
    k1_pay7 a e (ix2 r l) = ∑ d : Fin 256, a (ix2 r d) * e (ix2 l d) := by
  pointwise [k1_pay7, k1_pay6]

theorem score_apply (b : Vec Ideal S1x1024 .f32) (p : Vec Ideal S512x1024 .f32) (r : Fin 512) (l : Fin 1024) :
    k1_pay15 b p (ix2 r l) = b (ix2 0 l) + p (ix2 r l) := by
  pointwise [k1_pay15]

theorem least_apply (b : Vec Ideal S1x1024 .f32) (p : Vec Ideal S512x1024 .f32) (r : Fin 512) :
    k1_pay16 b p (ix2 r 0) = Finset.univ.fold min ⊤ fun l : Fin 1024 => b (ix2 0 l) + p (ix2 r l) := by
  pointwise [k1_pay16, k1_pay15]
  rw [ofBits_inf]

theorem place_apply (w : BitVec 32) (b : Vec Ideal S1x1024 .f32) (p : Vec Ideal S512x1024 .f32) (r : Fin 512) :
    k1_pay17 w b p (ix2 r 0) = Finset.univ.fold IntOp.minsi (2147483647#32) (fun l : Fin 1024 =>
        if b (ix2 0 l) + p (ix2 r l) = Finset.univ.fold min ⊤ (fun l : Fin 1024 => b (ix2 0 l) + p (ix2 r l))
          then BitVec.ofNat 32 l.val else 8192#32) + w * 1024#32 := by
  pointwise [k1_pay17, least_apply, score_apply]
  rfl

/-- Over a block whose scores in row `r` are those of the entries from `o` on, the body finds the first least one. -/
theorem block_at (g : Fin 8192 → EReal) (o : ℕ) (ho : o + 1024 ≤ 8192) (w : BitVec 32) (hw : w * 1024#32 = BitVec.ofNat 32 o)
    (b : Vec Ideal S1x1024 .f32) (p : Vec Ideal S512x1024 .f32) (r : Fin 512)
    (hg : ∀ l : Fin 1024, b (ix2 0 l) + p (ix2 r l) = g ⟨o + l.val, by omega⟩) :
    ∃ i : Fin 8192, FirstMin g o (o + 1024) i ∧ k1_pay16 b p (ix2 r 0) = g i ∧ k1_pay17 w b p (ix2 r 0) = BitVec.ofNat 32 i.val := by
  obtain ⟨i, h1, h2, h3, h4⟩ := block_spec (n := 1023) (by norm_num) 8192 2147483647
    (fun l : Fin 1024 => b (ix2 0 l) + p (ix2 r l)) (by norm_num) (by norm_num) (by norm_num) (by norm_num)
  simp only [hg] at h2 h3
  refine ⟨⟨o + i.val, by omega⟩, ⟨by simp, by simp, fun k hk hk' => ?_, fun k hk hk' => ?_⟩, ?_, ?_⟩
  · have := h2 ⟨k.val - o, by omega⟩
    rwa [show (⟨o + (k.val - o), by omega⟩ : Fin 8192) = k from Fin.ext (by simp; omega)] at this
  · have hk2 : k.val < o + i.val := hk'
    have := h3 ⟨k.val - o, by omega⟩ (show k.val - o < i.val by omega)
    rwa [show (⟨o + (k.val - o), by omega⟩ : Fin 8192) = k from Fin.ext (by simp; omega)] at this
  · rw [least_apply, h1, hg]
  · rw [place_apply, hw]
    refine (congrArg (· + BitVec.ofNat 32 o) h4).trans ?_
    rw [← BitVec.ofNat_add, Nat.add_comm]

/-! ## The running minimum -/

/-- The running least value and its place at row `r`: those of the first least of the scores below `n`. -/
def Holds (g : Fin 8192 → EReal) (n : ℕ) (m : Vec Ideal S512x1 .f32) (x : Vec Ideal S512x1 .i32) (r : Fin 512) : Prop :=
  ∃ i : Fin 8192, FirstMin g 0 n i ∧ m (ix2 r 0) = g i ∧ x (ix2 r 0) = BitVec.ofNat 32 i.val

theorem minNew_apply (b : Vec Ideal S1x1024 .f32) (p : Vec Ideal S512x1024 .f32) (m : Vec Ideal S512x1 .f32) (r : Fin 512) :
    k1_pay21 b p m m (ix2 r 0) = if k1_pay16 b p (ix2 r 0) < m (ix2 r 0) then k1_pay16 b p (ix2 r 0) else m (ix2 r 0) := by
  pointwise [k1_pay21, k1_pay20]

theorem idxNew_apply (w : BitVec 32) (b : Vec Ideal S1x1024 .f32) (p : Vec Ideal S512x1024 .f32) (m : Vec Ideal S512x1 .f32)
    (x : Vec Ideal S512x1 .i32) (r : Fin 512) :
    k1_pay22 w b p m x (ix2 r 0) = if k1_pay16 b p (ix2 r 0) < m (ix2 r 0) then k1_pay17 w b p (ix2 r 0) else x (ix2 r 0) := by
  pointwise [k1_pay22, k1_pay20]

/-- The first block starts the running minimum. -/
theorem holds_first (g : Fin 8192 → EReal) (w : BitVec 32) (hw : w * 1024#32 = BitVec.ofNat 32 0)
    (b : Vec Ideal S1x1024 .f32) (p : Vec Ideal S512x1024 .f32) (r : Fin 512)
    (hg : ∀ l : Fin 1024, b (ix2 0 l) + p (ix2 r l) = g ⟨0 + l.val, by omega⟩) :
    Holds g 1024 (k1_pay18 b p) (k1_pay19 w b p) r := by
  obtain ⟨i, h1, h2, h3⟩ := block_at g 0 (by norm_num) w hw b p r hg
  refine ⟨i, by simpa using h1, ?_, ?_⟩
  · pointwise [k1_pay18]; exact h2
  · pointwise [k1_pay19]; exact h3

/-- A further block extends it. -/
theorem holds_fold (g : Fin 8192 → EReal) (o : ℕ) (ho : o + 1024 ≤ 8192) (w : BitVec 32) (hw : w * 1024#32 = BitVec.ofNat 32 o)
    (b : Vec Ideal S1x1024 .f32) (p : Vec Ideal S512x1024 .f32) (m : Vec Ideal S512x1 .f32) (x : Vec Ideal S512x1 .i32) (r : Fin 512)
    (hg : ∀ l : Fin 1024, b (ix2 0 l) + p (ix2 r l) = g ⟨o + l.val, by omega⟩) (h : Holds g o m x r) :
    Holds g (o + 1024) (k1_pay21 b p m m) (k1_pay22 w b p m x) r := by
  obtain ⟨j, h1, h2, h3⟩ := block_at g o ho w hw b p r hg
  obtain ⟨i, g1, g2, g3⟩ := h
  rw [Holds, minNew_apply, idxNew_apply, h2, g2, h3, g3]
  by_cases hlt : g j < g i
  · exact ⟨j, g1.take h1 hlt (Nat.zero_le _), by rw [if_pos hlt], by rw [if_pos hlt]⟩
  · exact ⟨i, g1.keep h1 hlt, by rw [if_neg hlt], by rw [if_neg hlt]⟩

end Cert.KernelIdeal.Hand
-- ==== Proof.KernelIdeal.Steps.lean ====
/-
  What the carried state is after each point of a row block, over the extended reals: after point `q` of the four, each
  row's running minimum is the first least of the scores of the entries below 2048 q + 1024, and the product waiting to be
  folded in is that of the next 1024 entries.
-/
module

public import proofs.«01_k».proof.Proof.KernelIdeal.Body
public import proofs.«01_k».proof.Proof.KernelIdeal.Pay

@[expose] public section

set_option maxRecDepth 16384

noncomputable section

namespace Cert.KernelIdeal.Hand
open Idealize Idealize.ShloMosaic Cert.KernelIdeal Cert.KernelIdeal.Gen Cert.Nearest

/-- The score of entry `k` for row `r`: the entry's norm plus the product of the row with the scaled entry. -/
def score (a : Vec Ideal S512x256 .f32) (e : Vec Ideal S8192x256 .f32) (b : Vec Ideal S1x8192 .f32) (r : Fin 512)
    (k : Fin 8192) : EReal :=
  b (ix2 0 k) + ∑ d : Fin 256, (a (ix2 r d) : EReal) * e (ix2 k d)

theorem ld_rows (X : Vec Ideal S8192x256 .f32) (off : Fin 2 → ℕ) (inb : ∀ a, off a + S1024x256.size a ≤ S8192x256.size a)
    (o : ℕ) (h : off = ![o, 0]) (ho : o + 1024 ≤ 8192) (l : Fin 1024) (d : Fin 256) :
    View.ld X (Rect.unit (s := S8192x256) off S1024x256.size inb) (ix2 l d) = X (ix2 ⟨o + l.val, by omega⟩ d) := by
  subst h
  show X ((Rect.unit (s := S8192x256) ![o, 0] S1024x256.size inb).idx (ix2 l d)) = _
  blk_ext
  · show o + 1 * l.val = o + l.val; omega
  · show 0 + 1 * d.val = d.val; omega

theorem ld_cols (X : Vec Ideal S1x8192 .f32) (off : Fin 2 → ℕ) (inb : ∀ a, off a + S1x1024.size a ≤ S1x8192.size a)
    (o : ℕ) (h : off = ![0, o]) (ho : o + 1024 ≤ 8192) (l : Fin 1024) :
    View.ld X (Rect.unit (s := S1x8192) off S1x1024.size inb) (ix2 0 l) = X (ix2 0 ⟨o + l.val, by omega⟩) := by
  subst h
  show X ((Rect.unit (s := S1x8192) ![0, o] S1x1024.size inb).idx (ix2 0 l)) = _
  blk_ext
  show o + 1 * l.val = o + l.val; omega

theorem off2_eq : ∀ t : Fin cfg1.N, 1 ≤ t.val % 4 → k1_off2 (grid1.coords t) = ![0, 2048 * (t.val % 4) - 1024] :=
  (by decide +kernel : ∀ t : Fin grid1.N, 1 ≤ t.val % 4 → k1_off2 (grid1.coords t) = ![0, 2048 * (t.val % 4) - 1024])
theorem off1_at : ∀ t : Fin cfg1.N, k1_off1 (grid1.coords t) = ![2048 * (t.val % 4), 0] :=
  (by decide +kernel : ∀ t : Fin grid1.N, k1_off1 (grid1.coords t) = ![2048 * (t.val % 4), 0])
theorem off3_at : ∀ t : Fin cfg1.N, k1_off3 (grid1.coords t) = ![2048 * (t.val % 4) + 1024, 0] :=
  (by decide +kernel : ∀ t : Fin grid1.N, k1_off3 (grid1.coords t) = ![2048 * (t.val % 4) + 1024, 0])
theorem off4_at : ∀ t : Fin cfg1.N, k1_off4 (grid1.coords t) = ![0, 2048 * (t.val % 4)] :=
  (by decide +kernel : ∀ t : Fin grid1.N, k1_off4 (grid1.coords t) = ![0, 2048 * (t.val % 4)])
theorem off5_at : ∀ t : Fin cfg1.N, k1_off5 (grid1.coords t) = ![0, 2048 * (t.val % 4) + 1024] :=
  (by decide +kernel : ∀ t : Fin grid1.N, k1_off5 (grid1.coords t) = ![0, 2048 * (t.val % 4) + 1024])

/-- The number of the block before the point's first, as the body computes it. -/
abbrev blkPrev (i : grid1.Coords) : BitVec 32 := Scalar.maxsi (Scalar.subi (blk0 i) 1#32) 0#32

theorem blk0_at : ∀ t : Fin cfg1.N, blk0 (grid1.coords t) * 1024#32 = BitVec.ofNat 32 (2048 * (t.val % 4)) :=
  (by decide +kernel : ∀ t : Fin grid1.N, blk0 (grid1.coords t) * 1024#32 = BitVec.ofNat 32 (2048 * (t.val % 4)))
theorem blkPrev_at : ∀ t : Fin cfg1.N, 1 ≤ t.val % 4 →
    blkPrev (grid1.coords t) * 1024#32 = BitVec.ofNat 32 (2048 * (t.val % 4) - 1024) :=
  (by decide +kernel : ∀ t : Fin grid1.N, 1 ≤ t.val % 4 →
    blkPrev (grid1.coords t) * 1024#32 = BitVec.ofNat 32 (2048 * (t.val % 4) - 1024))
theorem blkNext_at : ∀ t : Fin cfg1.N,
    Scalar.addi (blk0 (grid1.coords t)) 1#32 * 1024#32 = BitVec.ofNat 32 (2048 * (t.val % 4) + 1024) :=
  (by decide +kernel : ∀ t : Fin grid1.N,
    Scalar.addi (blk0 (grid1.coords t)) 1#32 * 1024#32 = BitVec.ofNat 32 (2048 * (t.val % 4) + 1024))

section Point
variable (t : Fin cfg1.N) (a : Vec Ideal S512x256 .f32) (e : Vec Ideal S8192x256 .f32) (b : Vec Ideal S1x8192 .f32)

theorem prodA_at (r : Fin 512) (l : Fin 1024) : prodA (grid1.coords t) a e (ix2 r l)
    = ∑ d : Fin 256, (a (ix2 r d) : EReal) * e (ix2 ⟨2048 * (t.val % 4) + l.val, by omega⟩ d) := by
  rw [prodA, prod_apply]
  exact Finset.sum_congr rfl fun d _ => congrArg _ (ld_rows e _ _ _ (off1_at t) (by omega) l d)

theorem prodB_at (r : Fin 512) (l : Fin 1024) : prodB (grid1.coords t) a e (ix2 r l)
    = ∑ d : Fin 256, (a (ix2 r d) : EReal) * e (ix2 ⟨2048 * (t.val % 4) + 1024 + l.val, by omega⟩ d) := by
  refine (prod_apply a _ r l).trans ?_
  exact Finset.sum_congr rfl fun d _ => congrArg _ (ld_rows e _ _ _ (off3_at t) (by omega) l d)

theorem normA_at (l : Fin 1024) : normA (grid1.coords t) b (ix2 0 l) = b (ix2 0 ⟨2048 * (t.val % 4) + l.val, by omega⟩) :=
  ld_cols b _ _ _ (off4_at t) (by omega) l

theorem normB_at (h : k1_cond4 (grid1.coords t) = 1#1) (l : Fin 1024) :
    normB (grid1.coords t) h b (ix2 0 l) = b (ix2 0 ⟨2048 * (t.val % 4) + 1024 + l.val, by omega⟩) :=
  ld_cols b _ _ _ (off5_at t) (by omega) l

theorem normPrev_at (h : 1 ≤ t.val % 4) (l : Fin 1024) :
    normPrev (grid1.coords t) b (ix2 0 l) = b (ix2 0 ⟨2048 * (t.val % 4) - 1024 + l.val, by omega⟩) :=
  ld_cols b _ _ _ (off2_eq t h) (by omega) l

/-- The carried state after point `q` of a row block whose rows are `a`. -/
structure StOk (q : ℕ) (s : St Ideal) : Prop where
  wait : ∀ (r : Fin 512) (l : Fin 1024) (h : 2048 * q + 1024 + l.val < 8192),
    s.1 (ix2 r l) = ∑ d : Fin 256, (a (ix2 r d) : EReal) * e (ix2 ⟨2048 * q + 1024 + l.val, h⟩ d)
  held : ∀ r : Fin 512, Holds (score a e b r) (2048 * q + 1024) s.2.1 s.2.2 r

theorem stFirst_ok (h : t.val % 4 = 0) : StOk a e b (t.val % 4) (stFirst (grid1.coords t) a e b) where
  wait r l _ := prodB_at t a e r l
  held r := by
    have hw := blk0_at t
    have hA := fun l => normA_at t b l
    have hP := fun l => prodA_at t a e r l
    simp only [h, Nat.mul_zero] at hw hA hP
    have := holds_first (score a e b r) (blk0 (grid1.coords t)) hw (normA (grid1.coords t) b) (prodA (grid1.coords t) a e) r
      fun l => by rw [hA, hP]; rfl
    have e1 : 2048 * (t.val % 4) + 1024 = 1024 := by omega
    rw [e1]
    simp only [stFirst]
    exact this

theorem stNext_ok (q : ℕ) (hq : t.val % 4 = q + 1) (s : St Ideal) (hs : StOk a e b q s) :
    StOk a e b (t.val % 4) (stNext (grid1.coords t) a e b s) where
  wait r l _ := prodB_at t a e r l
  held r := by
    have hw := blk0_at t
    have hA := fun l => normA_at t b l
    have hP := fun l => prodA_at t a e r l
    have hw' := blkPrev_at t (by omega)
    have hB := fun l => normPrev_at t b (by omega) l
    have e1 : 2048 * (t.val % 4) - 1024 = 2048 * q + 1024 := by omega
    have e2 : 2048 * (t.val % 4) = 2048 * q + 1024 + 1024 := by omega
    have hq4 : q + 1 < 4 := by omega
    simp only [e1, e2] at hw hA hP hw' hB
    rw [e2]
    refine holds_fold _ _ (by omega) _ hw _ _ _ _ r (fun l => by rw [hA, hP]; rfl) ?_
    exact holds_fold _ _ (by omega) _ hw' _ _ _ _ r (fun l => by rw [hB, hs.wait r l (by omega)]; rfl) (hs.held r)

theorem stTail_ok (h : k1_cond4 (grid1.coords t) = 1#1) (hq : t.val % 4 = 3) (s : St Ideal) (hs : StOk a e b (t.val % 4) s)
    (r : Fin 512) :
    Holds (score a e b r) 8192 (stTail (grid1.coords t) h b s).2.1 (stTail (grid1.coords t) h b s).2.2 r := by
  have hw := blkNext_at t
  have hB := fun l => normB_at t b h l
  rw [hq] at hs
  simp only [hq] at hw hB
  exact holds_fold _ 7168 (by omega) _ hw _ _ _ _ r (fun l => by rw [hB, hs.wait r l (by omega)]; rfl) (hs.held r)

end Point

end Cert.KernelIdeal.Hand
-- ==== Proof.KernelIdeal.Value.lean ====
/-
  What the main call leaves in its result array over the extended reals: for every row, the first least of its scores.
-/
module

public import proofs.«01_k».proof.Proof.KernelIdeal.Steps
public import proofs.«01_k».proof.Proof.KernelIdeal.Final

@[expose] public section

set_option maxRecDepth 16384

noncomputable section

namespace Cert.KernelIdeal.Hand
open Idealize Idealize.ShloMosaic Idealize.ShloMosaic.TcCoe Cert.KernelIdeal Cert.KernelIdeal.Gen Cert.Nearest
open Idealize.ShloMosaic.Pipeline (Dat Cfg Window)

variable (V : (c : Dev nD) → (b : Ref sig .tc) → Buf (Elt Ideal) ((c : Thread nD τ).loc b)) (c : Dev nD)

/-- The main call's operands: the rows, the scaled codebook, the norms. -/
def rowsIn : Vec Ideal S16384x256 .f32 := V c main_v0
def embIn : Vec Ideal S8192x256 .f32 := V c main_v2_0
def normIn : Vec Ideal S1x8192 .f32 := V c main_v2_1

/-- The score of entry `k` for row `R` of all rows. -/
def scoreAt (R : Fin 16384) (k : Fin 8192) : EReal :=
  normIn V c (ix2 0 k) + ∑ d : Fin 256, (rowsIn V c (ix2 R d) : EReal) * embIn V c (ix2 k d)

theorem idx1 : ∀ t : Fin cfg1.N, win1_0.index t = ![t.val / 4, 0] ∧ win1_1.index t = ![0, 0] ∧ win1_2.index t = ![0, 0]
    ∧ win1_3.index t = ![t.val / 4, 0] ∧ t.val / 4 < 32 :=
  (by decide +kernel : ∀ t : Fin grid1.N, _)

theorem iblk1_1 (t : Fin cfg1.N) : iblk1 V c 1 t = embIn V c := by
  blk_ext! [iblk1, embIn, idx1 t]
theorem iblk1_2 (t : Fin cfg1.N) : iblk1 V c 2 t = normIn V c := by
  blk_ext! [iblk1, normIn, idx1 t]
theorem iblk1_0 (t : Fin cfg1.N) (r : Fin 512) (d : Fin 256) (h : 512 * (t.val / 4) + r.val < 16384) :
    (show Vec Ideal S512x256 .f32 from iblk1 V c 0 t) (ix2 r d) = rowsIn V c (ix2 ⟨512 * (t.val / 4) + r.val, h⟩ d) := by
  blk_ext! [iblk1, rowsIn, idx1 t]

/-- After every point of row block `I`, the carried state is as its rows' scores say. -/
theorem state_ok (t : Fin cfg1.N) : StOk (iblk1 V c 0 t) (embIn V c) (normIn V c) (t.val % 4) (stAt V c (t.val + 1)) := by
  obtain ⟨n, hn⟩ := t
  induction n with
  | zero =>
    have h0 : ((⟨0, hn⟩ : Fin cfg1.N).val) % 4 = 0 := rfl
    rw [stAt_first V c ⟨0, hn⟩ h0, iblk1_1, iblk1_2]
    exact stFirst_ok _ _ _ _ h0
  | succ n ih =>
    by_cases h : (⟨n + 1, hn⟩ : Fin cfg1.N).val % 4 = 0
    · rw [stAt_first V c ⟨n + 1, hn⟩ h, iblk1_1, iblk1_2]
      exact stFirst_ok _ _ _ _ h
    · rw [stAt_next V c ⟨n + 1, hn⟩ h, iblk1_1, iblk1_2]
      have h' : ¬(n + 1) % 4 = 0 := h
      have e : iblk1 V c 0 ⟨n, by omega⟩ = iblk1 V c 0 ⟨n + 1, hn⟩ := by
        funext x
        obtain ⟨r, d, rfl⟩ : ∃ (r : Fin 512) (d : Fin 256), x = ix2 r d := ⟨x 0, x 1, by blk_ext⟩
        have h1 := iblk1_0 V c ⟨n, by omega⟩ r d
        have h2 := iblk1_0 V c ⟨n + 1, hn⟩ r d
        have e4 : (n + 1) / 4 = n / 4 := by omega
        have hN : n + 1 < 128 := hn
        simp only [e4] at h1 h2
        exact (h1 (by omega)).trans (h2 (by omega)).symm
      refine stNext_ok ⟨n + 1, hn⟩ _ _ _ (n % 4) (show (n + 1) % 4 = n % 4 + 1 by omega) _ ?_
      rw [← e]
      exact ih (by omega)

theorem score_rows (t : Fin cfg1.N) (r : Fin 512) (h : 512 * (t.val / 4) + r.val < 16384) :
    score (iblk1 V c 0 t) (embIn V c) (normIn V c) r = scoreAt V c ⟨512 * (t.val / 4) + r.val, h⟩ := by
  funext k
  exact congrArg (normIn V c (ix2 0 k) + ·) (Finset.sum_congr rfl fun d _ => congrArg (· * embIn V c (ix2 k d)) (iblk1_0 V c t r d h))

/-- What the last point of a row block leaves at row `r`. -/
theorem out_ok (t : Fin cfg1.N) (ht : t.val % 4 = 3) (r : Fin 512) (h : 512 * (t.val / 4) + r.val < 16384) :
    ∃ i : Fin 8192, FirstMin (scoreAt V c ⟨512 * (t.val / 4) + r.val, h⟩) 0 8192 i
      ∧ outAt V c t (ix2 r 0) = BitVec.ofNat 32 i.val := by
  have h4 := (cond4_iff t).2 ht
  obtain ⟨i, h1, -, h3⟩ := stTail_ok t _ _ _ h4 ht _ (state_ok V c t) r
  rw [score_rows V c t r h] at h1
  refine ⟨i, h1, ?_⟩
  rw [outAt, dif_pos h4, iblk1_2]
  exact h3

/-- The main call's result: at every row the first least of its scores. -/
theorem result_at (R : Fin 16384) : ∃ i : Fin 8192, FirstMin (scoreAt V c R) 0 8192 i
    ∧ (show Vec Ideal S16384x1 .i32 from (dat1 V c).arrAt 3 cfg1.N) (ix2 R 0) = BitVec.ofNat 32 i.val := by
  have := (dat1 V c).arrAt_forall_of_covers 3 (fun (x : S16384x1.Idx) (v : BitVec 32) =>
      ∃ i : Fin 8192, FirstMin (scoreAt V c (x 0)) 0 8192 i ∧ v = BitVec.ofNat 32 i.val) (by decide +kernel)
    (fun t hf y => ?_) (ix2 R 0)
  · exact this
  · blk_simp
    rw [dat1_after3]
    have ht := (flush1_3 t).mp hf
    obtain ⟨r, z, rfl⟩ : ∃ (r : Fin 512) (z : Fin 1), y = ix2 r z := ⟨y 0, y 1, by blk_ext⟩
    obtain rfl : z = 0 := Subsingleton.elim _ _
    have hR : 512 * (t.val / 4) + r.val < 16384 := by have : t.val < 128 := t.isLt; omega
    obtain ⟨i, h1, h2⟩ := out_ok V c t ht r hR
    refine ⟨i, ?_, h2⟩
    refine Eq.mp (congrArg (fun R => FirstMin (scoreAt V c R) 0 8192 i) (Fin.ext ?_)) h1
    blk_simp [idx1 t]
    show 512 * (t.val / 4) + r.val = t.val / 4 * 512 + r.val
    omega

end Cert.KernelIdeal.Hand
-- ==== Proof.KernelIdeal.Result.lean ====
/-
  The kernel's result over the extended reals, in terms of the three arguments.
-/
module

public import proofs.«01_k».proof.Proof.KernelIdeal.Value

@[expose] public section

set_option maxRecDepth 16384

noncomputable section

namespace Cert.KernelIdeal.Hand
open Idealize Idealize.ShloMosaic Idealize.ShloMosaic.TcCoe Cert.KernelIdeal Cert.KernelIdeal.Gen Cert.Nearest
open Idealize.ShloMosaic.Pipeline (Dat Cfg Window)

variable (m : (ℓ : Loc nD τ sig) → Buf (Elt Ideal) ℓ) (c : Dev nD)

def argH : Vec Ideal S16x1024x256 .f32 := m ((c : Thread nD τ).loc main_arg0)
def argE : Vec Ideal S8192x256 .f32 := m ((c : Thread nD τ).loc main_arg1)
def argU : Vec Ideal S8192 .f32 := m ((c : Thread nD τ).loc main_arg2)

theorem idx0 : ∀ t : Fin cfg0.N, win0_0.index t = ![0, 0] ∧ win0_1.index t = ![0, 0] ∧ win0_2.index t = ![0, 0]
    ∧ win0_3.index t = ![0, 0] :=
  (by decide +kernel : ∀ t : Fin grid0.N, _)

theorem W1_v0 : W1 m c (Proc.devRef .tc main_v0) = shapeCast S16384x256 (argH m c) shapeCasts_S16x1024x256_S16384x256 := by
  unfold W1 hostOps0 W0 argH
  after_results_simp
  try rfl

theorem W1_v1 : W1 m c (Proc.devRef .tc main_v1) = shapeCast S8192x1 (argU m c) shapeCasts_S8192_S8192x1 := by
  unfold W1 hostOps0 W0 argU
  after_results_simp
  try rfl

theorem W1_arg1 : W1 m c (Proc.devRef .tc main_arg1) = argE m c :=
  (StableHlo.after_of_writes_sub hostOps0 _ hostOps0_writes (by decide : main_arg1 ∉ hostOps0_W)).trans rfl

/-- The cluster sizes as a column. -/
abbrev colU : Vec Ideal S8192x1 .f32 := shapeCast S8192x1 (argU m c) shapeCasts_S8192_S8192x1

theorem iblk0_0 (t : Fin cfg0.N) : iblk0 (U1 m) c 0 t = argE m c := by
  rw [← W1_arg1]
  blk_ext! [iblk0, U1, idx0 t]
theorem iblk0_1 (t : Fin cfg0.N) : iblk0 (U1 m) c 1 t = colU m c := by
  rw [colU, ← W1_v1]
  blk_ext! [iblk0, U1, idx0 t]

/-- The preparing call's arrays: the scaled codebook and the norms. -/
theorem embIn_eq : embIn (U2 m) c = k0_pay3 (argE m c) (colU m c) := by
  refine (Pipeline.afterRegion_arr (dat0 (U1 m) c) (W1 m c) launch0.win.arr_inj 2).trans ?_
  refine (dat0 (U1 m) c).arrAt_eq_of_covers 2 _ (by decide +kernel) fun t _ y => ?_
  blk_simp
  rw [dat0_after2, iblk0_0, iblk0_1]
  refine congrArg (k0_pay3 (argE m c) (colU m c)) ?_
  blk_ext [idx0 t]
theorem normIn_eq : normIn (U2 m) c = k0_pay2 (argE m c) (colU m c) := by
  refine (Pipeline.afterRegion_arr (dat0 (U1 m) c) (W1 m c) launch0.win.arr_inj 3).trans ?_
  refine (dat0 (U1 m) c).arrAt_eq_of_covers 3 _ (by decide +kernel) fun t _ y => ?_
  blk_simp
  rw [dat0_after3, iblk0_0, iblk0_1]
  refine congrArg (k0_pay2 (argE m c) (colU m c)) ?_
  blk_ext [idx0 t]
theorem rowsIn_eq : rowsIn (U2 m) c = shapeCast S16384x256 (argH m c) shapeCasts_S16x1024x256_S16384x256 :=
  (Pipeline.afterRegion_of_not_arr (dat0 (U1 m) c) (W1 m c) (by decide : ∀ w, main_v0 ≠ Pipeline.arrRef spec0 w)).trans (W1_v0 m c)

/-- The program's result: the main call's array in the result's shape. -/
theorem W4_v4 : W4 m c (Proc.devRef .tc main_v4)
    = shapeCast (α := BitVec 32) S16x1024 ((dat1 (U2 m) c).arrAt 3 cfg1.N) shapeCasts_S16384x1_S16x1024 := by
  have h3 : W3 m c (Proc.devRef .tc main_v3) = (dat1 (U2 m) c).arrAt 3 cfg1.N :=
    Pipeline.afterRegion_arr (dat1 (U2 m) c) (W2 m c) launch1.win.arr_inj 3
  rw [← h3]
  unfold W4
  generalize W3 m c = V
  rw [hostOps2, StableHlo.after_cons, StableHlo.after_nil,
    StableHlo.reshape_result (Val := Elt Ideal) (τ := τ) main_v3 main_v4 rfl shapeCasts_S16384x1_S16x1024 _ _ V]
  rfl

end Cert.KernelIdeal.Hand
-- ==== Proof.Math.Dist.lean ====
/-
  Over real rows and a real codebook: the kernel's score of an entry and the reference's distance of it are both
  increasing in the squared distance, so their smallest entries, and the first of them, are the same.
-/
module

public import proofs.«01_k».proof.Proof.Math.FirstMin

@[expose] public section

noncomputable section

namespace Cert.Nearest
open Idealize.ShloMosaic

/-! ## The constants -/

/-- The floor under an entry's usage is a positive real. -/
theorem eps_real : ∃ r : ℝ, 0 < r ∧ Ideal.ofBits .f32 0x3727C5AC#32 = (r : EReal) := by
  refine ⟨_, ?_, by simp only [Ideal.ofBits, Ideal.ieee]; simp [-EReal.coe_mul]; rfl⟩
  positivity

theorem two_real : Ideal.ofBits .f32 0x40000000#32 = ((2 : ℝ) : EReal) := by
  simp [Ideal.ofBits, Ideal.ieee, -EReal.coe_mul]; norm_num

theorem negTwo_real : Ideal.ofBits .f32 0xC0000000#32 = ((-2 : ℝ) : EReal) := by
  simp [Ideal.ofBits, Ideal.ieee, -EReal.coe_mul]; norm_num

/-! ## The extended operations over reals -/

theorem sum_coe {ι : Type} (s : Finset ι) (f : ι → ℝ) : ∑ d ∈ s, ((f d : ℝ) : EReal) = ((∑ d ∈ s, f d : ℝ) : EReal) := by
  classical
  induction s using Finset.induction_on with
  | empty => simp
  | insert a s ha ih => rw [Finset.sum_insert ha, Finset.sum_insert ha, ih, EReal.coe_add]

/-- A value whose magnitude is below infinity is a real. -/
theorem real_of_abs_lt {x : EReal} (h : max x (-x) < ⊤) : ∃ r : ℝ, x = (r : EReal) := by
  induction x with
  | bot => simp at h
  | top => simp at h
  | coe r => exact ⟨r, rfl⟩

/-- A real sum over its usage, floored by a positive number, is a real whatever the usage is. -/
theorem div_floor_real (x : ℝ) (u : EReal) :
    ∃ r : ℝ, Ideal.div (x : EReal) (max u (Ideal.ofBits .f32 0x3727C5AC#32)) = (r : EReal) := by
  obtain ⟨e, he, hb⟩ := eps_real
  rw [hb]
  have hpos : (0 : EReal) < max u (e : EReal) := lt_max_of_lt_right (EReal.coe_pos.2 he)
  generalize max u (e : EReal) = y at hpos
  rw [Ideal.div, if_neg hpos.ne']
  induction y with
  | bot => simp at hpos
  | top => exact ⟨0, by rw [EReal.inv_top, mul_zero]; rfl⟩
  | coe r => exact ⟨x * r⁻¹, by rw [← EReal.coe_inv, ← EReal.coe_mul]⟩

/-! ## Score and distance -/

/-- The codebook's entry `k` at the coordinate `d`: the sum over the floored usage. -/
def entry (es : (⟨2, ![8192, 256]⟩ : Shape).Idx → EReal) (u : (⟨1, ![8192]⟩ : Shape).Idx → EReal) (k : Fin 8192) (d : Fin 256) : EReal :=
  Ideal.div (es (ix2 k d)) (max (u (ix1 k)) (Ideal.ofBits .f32 0x3727C5AC#32))

variable {n N : ℕ}

/-- The kernel's score of the entry `e` for the row `a`. -/
def score (a e : Fin n → EReal) : EReal :=
  (∑ d, e d * e d) + ∑ d, a d * (Ideal.ofBits .f32 0xC0000000#32 * e d)

/-- The reference's distance of the entry `e` from the row `a`. -/
def dist (a e : Fin n → EReal) : EReal :=
  Ideal.sqrt (max ((∑ d, a d * a d) + (∑ d, e d * e d) - Ideal.ofBits .f32 0x40000000#32 * ∑ d, a d * e d) 0)

/-- The squared distance. -/
def sq (a e : Fin n → ℝ) : ℝ := ∑ d, (a d - e d) ^ 2

theorem sq_nonneg' (a e : Fin n → ℝ) : 0 ≤ sq a e := Finset.sum_nonneg fun _ _ => sq_nonneg _

theorem sq_eq (a e : Fin n → ℝ) : sq a e = (∑ d, a d * a d) + (∑ d, e d * e d) - 2 * ∑ d, a d * e d := by
  rw [sq, Finset.mul_sum, ← Finset.sum_add_distrib, ← Finset.sum_sub_distrib]
  exact Finset.sum_congr rfl fun d _ => by ring

theorem score_coe (a e : Fin n → ℝ) :
    score (fun d => (a d : EReal)) (fun d => (e d : EReal)) = ((sq a e - ∑ d, a d * a d : ℝ) : EReal) := by
  rw [score, negTwo_real]
  simp only [← EReal.coe_mul, sum_coe, ← EReal.coe_add]
  rw [sq_eq]
  have : ∑ d, a d * (-2 * e d) = -2 * ∑ d, a d * e d := by
    rw [Finset.mul_sum]
    exact Finset.sum_congr rfl fun d _ => by ring
  rw [this]
  congr 1
  ring

theorem dist_coe (a e : Fin n → ℝ) :
    dist (fun d => (a d : EReal)) (fun d => (e d : EReal)) = ((Real.sqrt (sq a e) : ℝ) : EReal) := by
  rw [dist, two_real]
  simp only [← EReal.coe_mul, sum_coe, ← EReal.coe_add, ← EReal.coe_sub]
  rw [← sq_eq, max_eq_left (EReal.coe_nonneg.2 (sq_nonneg' a e)), Ideal.sqrt_coe, if_neg (not_lt.2 (sq_nonneg' a e))]

/-- A distance between reals is below infinity. -/
theorem dist_lt_top (a e : Fin n → ℝ) : dist (fun d => (a d : EReal)) (fun d => (e d : EReal)) < ⊤ := by
  rw [dist_coe]
  exact EReal.coe_lt_top _

/-- One entry's distance is below another's exactly when its score is. -/
theorem dist_lt_iff (a e e' : Fin n → ℝ) :
    dist (fun d => (a d : EReal)) (fun d => (e d : EReal)) < dist (fun d => (a d : EReal)) (fun d => (e' d : EReal))
      ↔ score (fun d => (a d : EReal)) (fun d => (e d : EReal)) < score (fun d => (a d : EReal)) (fun d => (e' d : EReal)) := by
  rw [dist_coe, dist_coe, score_coe, score_coe, EReal.coe_lt_coe_iff, EReal.coe_lt_coe_iff,
    Real.sqrt_lt_sqrt_iff (sq_nonneg' a e), sub_lt_sub_iff_right]

/-- The first entry of the smallest score is the entry whose (distance, position) comes before every other's. -/
theorem nearest_agree (hN : N < 2 ^ 31) (a : Fin n → ℝ) (e : Fin N → Fin n → ℝ) (i k : Fin N)
    (hi : FirstMin (fun k => score (fun d => (a d : EReal)) (fun d => (e k d : EReal))) 0 N i)
    (hk : ∀ k' : Fin N, Before (dist (fun d => (a d : EReal)) (fun d => (e k d : EReal)), BitVec.ofNat 32 k.val)
      (dist (fun d => (a d : EReal)) (fun d => (e k' d : EReal)), BitVec.ofNat 32 k'.val)) : i = k := by
  refine hi.unique ⟨Nat.zero_le _, k.isLt, fun k' _ _ => ?_, fun k' _ hlt => ?_⟩
  · refine not_lt.1 fun h => ?_
    have h := (dist_lt_iff a (e k') (e k)).2 h
    rcases hk k' with g | ⟨g, -⟩
    · exact lt_asymm g h
    · exact h.ne g.symm
  · refine (dist_lt_iff a (e k) (e k')).1 ?_
    rcases hk k' with g | ⟨-, g⟩
    · exact g
    · exfalso
      have h1 : (BitVec.ofNat 32 k.val).toInt = k.val := StableHlo.Predicate.toInt_ofNat_small _ (by omega)
      have h2 : (BitVec.ofNat 32 k'.val).toInt = k'.val := StableHlo.Predicate.toInt_ofNat_small _ (by omega)
      simp only [h1, h2] at g
      omega

end Cert.Nearest
-- ==== Proof.KernelIdeal.Answer.lean ====
/-
  The kernel's answer at one row: the first entry of the smallest score, in terms of the arguments' elements.
-/
module

public import proofs.«01_k».proof.Proof.KernelIdeal.Result
public import proofs.«01_k».proof.Proof.Math.Dist

@[expose] public section

set_option maxRecDepth 16384

noncomputable section

namespace Cert.KernelIdeal.Hand
open Idealize Idealize.ShloMosaic Idealize.ShloMosaic.TcCoe Cert.KernelIdeal Cert.KernelIdeal.Gen Cert.Nearest

/-! ## The reshapes at an index -/

theorem col_apply (u : S8192.Idx → EReal) (k : Fin 8192) :
    shapeCast (α := EReal) S8192x1 u shapeCasts_S8192_S8192x1 (ix2 k 0) = u (ix1 k) := by
  pointwise

theorem flat_apply (h : S16x1024x256.Idx → EReal) (i : Fin 16) (j : Fin 1024) (d : Fin 256) (hR : i.val * 1024 + j.val < 16384) :
    shapeCast (α := EReal) S16384x256 h shapeCasts_S16x1024x256_S16384x256 (ix2 ⟨i.val * 1024 + j.val, hR⟩ d) = h (ix3 i j d) := by
  pointwise

theorem out_apply (y : S16384x1.Idx → BitVec 32) (i : Fin 16) (j : Fin 1024) (hR : i.val * 1024 + j.val < 16384) :
    shapeCast (α := BitVec 32) S16x1024 y shapeCasts_S16384x1_S16x1024 (ix2 i j) = y (ix2 ⟨i.val * 1024 + j.val, hR⟩ 0) := by
  pointwise

/-! ## The answer -/

variable (m : (ℓ : Loc nD τ sig) → Buf (Elt Ideal) ℓ) (c : Dev nD)

theorem emb_entry (k : Fin 8192) (d : Fin 256) : k0_pay1 (argE m c) (colU m c) (ix2 k d) = entry (argE m c) (argU m c) k d := by
  rw [emb_apply]
  unfold entry eps
  exact congrArg (fun z => Ideal.div _ (max z _)) (col_apply (argU m c) k)

theorem scoreAt_eq (i : Fin 16) (j : Fin 1024) (hR : i.val * 1024 + j.val < 16384) (k : Fin 8192) :
    scoreAt (U2 m) c ⟨i.val * 1024 + j.val, hR⟩ k
      = Cert.Nearest.score (fun d => argH m c (ix3 i j d)) (fun d => entry (argE m c) (argU m c) k d) := by
  rw [scoreAt, normIn_eq, embIn_eq, rowsIn_eq, norm_apply, Cert.Nearest.score]
  refine congrArg₂ (· + ·) (Finset.sum_congr rfl fun d _ => ?_) (Finset.sum_congr rfl fun d _ => ?_)
  · exact congrArg₂ (· * ·) (emb_entry m c k d) (emb_entry m c k d)
  · refine congrArg₂ (· * ·) (flat_apply (argH m c) i j d hR) ((emb2_apply _ _ k d).trans ?_)
    exact congrArg (negTwo * ·) (emb_entry m c k d)

/-- At each row the result is the first entry of the smallest score. -/
theorem answer_at (i : Fin 16) (j : Fin 1024) :
    ∃ k : Fin 8192, FirstMin (fun k => Cert.Nearest.score (fun d => argH m c (ix3 i j d)) (fun d => entry (argE m c) (argU m c) k d)) 0 8192 k
      ∧ (show S16x1024.Idx → BitVec 32 from W4 m c (Proc.devRef .tc main_v4)) (ix2 i j) = BitVec.ofNat 32 k.val := by
  have hR : i.val * 1024 + j.val < 16384 := by omega
  obtain ⟨k, hk, hv⟩ := result_at (U2 m) c ⟨i.val * 1024 + j.val, hR⟩
  refine ⟨k, ?_, ?_⟩
  · rw [← funext (scoreAt_eq m c i j hR)]
    exact hk
  · exact ((congrFun (W4_v4 m c) (ix2 i j)).trans (out_apply _ i j hR)).trans hv

end Cert.KernelIdeal.Hand
-- ==== Proof.ReferenceIdeal.Value.lean ====
/-
  The reference's result over the extended reals, read at an index.
-/
module

public import proofs.«01_k».proof.Proof.ReferenceIdeal.Run
public import proofs.«01_k».proof.Proof.Math.FirstMin

@[expose] public section

set_option maxRecDepth 16384

noncomputable section

namespace Cert.ReferenceIdeal.Hand
open Idealize Idealize.ShloMosaic Cert.ReferenceIdeal Cert.ReferenceIdeal.Gen Cert.Nearest

/-! ## The terms at an index -/

theorem embOf_apply (es : FVec Ideal S8192x256 .f32) (u : FVec Ideal S8192 .f32) (k : Fin 8192) (d : Fin 256) :
    embOf es u (ix2 k d) = Ideal.div (es (ix2 k d)) (max (u (ix1 k)) (Ideal.ofBits .f32 0x3727C5AC#32)) := by
  pointwise [embOf]

theorem flatOf_apply (h : FVec Ideal S16x1024x256 .f32) (i : Fin 16) (j : Fin 1024) (d : Fin 256) (hR : i.val * 1024 + j.val < 16384) :
    flatOf h (ix2 ⟨i.val * 1024 + j.val, hR⟩ d) = h (ix3 i j d) := by
  pointwise [flatOf]

theorem sqOf_apply (x : FVec Ideal S16384x256 .f32) (e : FVec Ideal S8192x256 .f32) (R : Fin 16384) (k : Fin 8192) :
    sqOf x e (ix2 R k) = (∑ d : Fin 256, x (ix2 R d) * x (ix2 R d)) + (∑ d : Fin 256, e (ix2 k d) * e (ix2 k d))
      - Ideal.ofBits .f32 0x40000000#32 * ∑ d : Fin 256, x (ix2 R d) * e (ix2 k d) := by
  pointwise [sqOf]

theorem distOf_apply (x : FVec Ideal S16384x256 .f32) (e : FVec Ideal S8192x256 .f32) (R : Fin 16384) (k : Fin 8192) :
    distOf x e (ix2 R k) = Ideal.sqrt (max (sqOf x e (ix2 R k)) 0) := by
  pointwise [distOf]

theorem unflat_apply (y : S16384.Idx → BitVec 32) (i : Fin 16) (j : Fin 1024) (hR : i.val * 1024 + j.val < 16384) :
    shapeCast (α := BitVec 32) S16x1024 y shapeCasts_S16384_S16x1024 (ix2 i j) = y (ix1 ⟨i.val * 1024 + j.val, hR⟩) := by
  pointwise

theorem refOut_apply (h : FVec Ideal S16x1024x256 .f32) (es : FVec Ideal S8192x256 .f32) (u : FVec Ideal S8192 .f32)
    (i : Fin 16) (j : Fin 1024) (hR : i.val * 1024 + j.val < 16384) :
    refOut h es u (ix2 i j) = idxOf (distOf (flatOf h) (embOf es u)) (ix1 ⟨i.val * 1024 + j.val, hR⟩) :=
  unflat_apply _ i j hR

end Cert.ReferenceIdeal.Hand
-- ==== Proof.ReferenceIdeal.Argmin.lean ====
/-
  The reference's argmin over a row of distances: the reduction of (distance, position) pairs leaves the position of a
  pair that comes before every other, the smaller distance first and the smaller position among equals.
-/
module

public import proofs.«01_k».proof.Proof.ReferenceIdeal.Run
public import proofs.«01_k».proof.Proof.Math.FirstMin

@[expose] public section

set_option maxRecDepth 16384

noncomputable section

namespace Cert.ReferenceIdeal.Hand
open Idealize Idealize.ShloMosaic Cert.ReferenceIdeal Cert.ReferenceIdeal.Gen Cert.Nearest

/-! ## The smallest of a row, and its place -/

/-- The reduction's step keeps one of its two pairs, and one that comes before both. -/
theorem reducer_before (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨a, i⟩ := p
  obtain ⟨b, j⟩ := q
  have key : reducer_argmin_f32_i32 (F := Ideal) (a, i) (b, j)
      = (if a < b then a else b, if a < b ∨ (a = b ∧ i.toInt < j.toInt) then i else j) := by
    unfold reducer_argmin_f32_i32
    simp only [Ideal.cmpf_def, Ideal.cmp, IntOp.cmpi, IntOp.ori, IntOp.andi, Scalar.select, BitVec.slt]
    by_cases h1 : a < b <;> by_cases h2 : a = b <;> by_cases h3 : i.toInt < j.toInt <;> simp [h1, h2, h3]
  rw [key]
  unfold Before
  rcases lt_trichotomy a b with h | h | h
  · simp [h]
  · subst h
    by_cases h3 : i.toInt < j.toInt
    · simp [h3, h3.le]
    · simp [h3, not_lt.1 h3]
  · simp [h, h.le, not_lt.2 h.le, h.ne', h.not_gt]

theorem mem_fiber (x : FVec Ideal S16384x8192 .f32) (y : S16384x8192.Idx → BitVec 32) (R : Fin 16384) (p : EReal × BitVec 32) :
    p ∈ Host.argReduceFiber x y reducesTo_S16384x8192_S16384_d1 (ix1 R) ↔ ∃ k : Fin 8192, p = (x (ix2 R k), y (ix2 R k)) := by
  unfold Host.argReduceFiber
  rw [List.mem_map]
  constructor
  · rintro ⟨n, hn, rfl⟩
    rw [List.mem_filter] at hn
    obtain ⟨k, hk⟩ := (reducesTo_S16384x8192_S16384_d1.fiber_r2_a1 (ix1 R) _).1 (of_decide_eq_true hn.2)
    exact ⟨k, by rw [← hk]; rfl⟩
  · rintro ⟨k, rfl⟩
    refine ⟨S16384x8192.rowMajor (ix2 R k), List.mem_filter.2 ⟨List.mem_finRange _, decide_eq_true ?_⟩, by rw [Equiv.symm_apply_apply]⟩
    rw [Equiv.symm_apply_apply]
    exact (reducesTo_S16384x8192_S16384_d1.fiber_r2_a1 (ix1 R) _).2 ⟨k, rfl⟩

/-- What the reduction leaves at an index: the start or a pair of the fiber, and one that comes before each of the fiber's. -/
theorem argReduce_before {s t u : Shape} {axes : List (Fin s.rank)} (f : Ideal .f32 × BitVec 32 → Ideal .f32 × BitVec 32 → Ideal .f32 × BitVec 32)
    (hf : ∀ p q : EReal × BitVec 32, (f p q = p ∨ f p q = q) ∧ Before (f p q) p ∧ Before (f p q) q)
    (x : FVec Ideal s .f32) (y : s.Idx → BitVec 32) (ix : u.Idx → Ideal .f32) (iy : u.Idx → BitVec 32)
    (h : s.ReducesTo axes t) (hu : 0 < u.numel) (j : t.Idx) (z : EReal × BitVec 32)
    (hz : z = (ix (Shape.Idx.first hu), iy (Shape.Idx.first hu))) :
    (Host.argReduce f x y ix iy h hu j = z ∨ Host.argReduce f x y ix iy h hu j ∈ Host.argReduceFiber x y h j)
      ∧ ∀ p ∈ Host.argReduceFiber x y h j, Before (Host.argReduce f x y ix iy h hu j) p := by
  subst hz
  have e := congrFun (Ideal.argReduce_eq_reduce2 f x y ix iy h hu) j
  rw [e, Host.reduce2_eq_foldl_fiber]
  have := foldl_before f hf (Host.argReduceFiber x y h j) (ix (Shape.Idx.first hu), iy (Shape.Idx.first hu))
  exact ⟨this.1, this.2.2⟩

theorem argOf_eq (x : FVec Ideal S16384x8192 .f32) (y : S16384x8192.Idx → BitVec 32) (u : FVec Ideal S_ .f32) (v : S_.Idx → BitVec 32) :
    argOf x y u v = fun j => (Host.argReduce (reducer_argmin_f32_i32 (F := Ideal)) x y u v reducesTo_S16384x8192_S16384_d1 h_S_ j).2 := by
  delta argOf
  exact Eq.refl _

/-- Of a row one of whose values is below infinity, the reduction from infinity finds the place of one that comes before all. -/
theorem argOf_spec (x : FVec Ideal S16384x8192 .f32) (y : S16384x8192.Idx → BitVec 32) (u : FVec Ideal S_ .f32) (v : S_.Idx → BitVec 32)
    (R : Fin 16384) (hu : (u (Shape.Idx.first h_S_) : EReal) = ⊤) (k0 : Fin 8192) (hx : (x (ix2 R k0) : EReal) < ⊤) :
    ∃ k : Fin 8192, argOf x y u v (ix1 R) = y (ix2 R k)
      ∧ ∀ k' : Fin 8192, Before (x (ix2 R k), y (ix2 R k)) (x (ix2 R k'), y (ix2 R k')) := by
  obtain ⟨h1, h3⟩ := argReduce_before (reducer_argmin_f32_i32 (F := Ideal)) reducer_before x y u v
    reducesTo_S16384x8192_S16384_d1 h_S_ (ix1 R) _ rfl
  rw [argOf_eq]
  beta_reduce
  generalize Host.argReduce (reducer_argmin_f32_i32 (F := Ideal)) x y u v reducesTo_S16384x8192_S16384_d1 h_S_ (ix1 R) = r at h1 h3 ⊢
  have hall : ∀ k' : Fin 8192, Before r (x (ix2 R k'), y (ix2 R k')) := fun k' =>
    h3 _ ((mem_fiber x y R _).2 ⟨k', rfl⟩)
  rcases h1 with h1 | h1
  · exfalso
    have ht : r.1 = ⊤ := by rw [h1]; exact hu
    rcases hall k0 with h | ⟨h, -⟩
    · exact absurd h (by rw [ht]; exact not_top_lt)
    · rw [ht] at h
      exact absurd h.symm hx.ne
  · obtain ⟨k, hk⟩ := (mem_fiber x y R _).1 h1
    refine ⟨k, by rw [hk], fun k' => ?_⟩
    have := hall k'
    rw [hk] at this
    exact this

theorem lane_apply (R : Fin 16384) (k : Fin 8192) : iotaInDim S16384x8192 32 1 (ix2 R k) = BitVec.ofNat 32 k.val := rfl

theorem start_apply (i : S_.Idx) : (constant (F := Ideal) S_ .f32 0x7F800000#32 i : EReal) = ⊤ := by
  rw [constant]
  simp [Ideal.ofBits, Ideal.ieee]

/-- Of a row of distances one of which is finite, the reference finds the first of the smallest. -/
theorem idxOf_spec (x : FVec Ideal S16384x8192 .f32) (R : Fin 16384) (k0 : Fin 8192) (hx : (x (ix2 R k0) : EReal) < ⊤) :
    ∃ k : Fin 8192, idxOf x (ix1 R) = BitVec.ofNat 32 k.val
      ∧ ∀ k' : Fin 8192, Before (x (ix2 R k), BitVec.ofNat 32 k.val) (x (ix2 R k'), BitVec.ofNat 32 k'.val) := by
  obtain ⟨k, h, h'⟩ := argOf_spec x (iotaInDim S16384x8192 32 1) (constant S_ .f32 0x7F800000#32) (constantI S_ 32 0#32) R
    (start_apply _) k0 hx
  refine ⟨k, by unfold idxOf; rw [h, lane_apply], fun k' => ?_⟩
  have := h' k'
  rwa [lane_apply, lane_apply] at this

end Cert.ReferenceIdeal.Hand
-- ==== Proof.ReferenceIdeal.Answer.lean ====
/-
  The reference's answer at one row: the entry whose (distance, position) comes before every other's, in terms of the
  arguments' elements.
-/
module

public import proofs.«01_k».proof.Proof.ReferenceIdeal.Value
public import proofs.«01_k».proof.Proof.ReferenceIdeal.Argmin
public import proofs.«01_k».proof.Proof.Math.Dist

@[expose] public section

set_option maxRecDepth 16384

noncomputable section

namespace Cert.ReferenceIdeal.Hand
open Idealize Idealize.ShloMosaic Cert.ReferenceIdeal Cert.ReferenceIdeal.Gen Cert.Nearest

theorem distOf_eq (h : FVec Ideal S16x1024x256 .f32) (es : FVec Ideal S8192x256 .f32) (u : FVec Ideal S8192 .f32)
    (i : Fin 16) (j : Fin 1024) (hR : i.val * 1024 + j.val < 16384) (k : Fin 8192) :
    (distOf (flatOf h) (embOf es u) (ix2 ⟨i.val * 1024 + j.val, hR⟩ k) : EReal)
      = Cert.Nearest.dist (fun d => h (ix3 i j d)) (fun d => entry es u k d) := by
  rw [distOf_apply, sqOf_apply, Cert.Nearest.dist]
  simp only [flatOf_apply, embOf_apply, entry]

/-- Where some distance is below infinity, the result is the first entry of the smallest distance. -/
theorem answer_at (h : FVec Ideal S16x1024x256 .f32) (es : FVec Ideal S8192x256 .f32) (u : FVec Ideal S8192 .f32)
    (i : Fin 16) (j : Fin 1024) (k0 : Fin 8192)
    (hfin : Cert.Nearest.dist (fun d => h (ix3 i j d)) (fun d => entry es u k0 d) < ⊤) :
    ∃ k : Fin 8192, refOut h es u (ix2 i j) = BitVec.ofNat 32 k.val
      ∧ ∀ k' : Fin 8192, Before (Cert.Nearest.dist (fun d => h (ix3 i j d)) (fun d => entry es u k d), BitVec.ofNat 32 k.val)
          (Cert.Nearest.dist (fun d => h (ix3 i j d)) (fun d => entry es u k' d), BitVec.ofNat 32 k'.val) := by
  have hR : i.val * 1024 + j.val < 16384 := by omega
  rw [refOut_apply h es u i j hR]
  have hd := distOf_eq h es u i j hR
  generalize distOf (flatOf h) (embOf es u) = x at hd ⊢
  obtain ⟨k, hk, hb⟩ := idxOf_spec x ⟨i.val * 1024 + j.val, hR⟩ k0 (by rw [hd]; exact hfin)
  refine ⟨k, hk, fun k' => ?_⟩
  have := hb k'
  rwa [hd, hd] at this

end Cert.ReferenceIdeal.Hand
-- ==== Proof.Equation.lean ====
/-
  The equation: from finite hidden states and codebook sums, the kernel's result is the reference's.
-/
module

public import proofs.«01_k».proof.Proof.KernelIdeal.Answer
public import proofs.«01_k».proof.Proof.ReferenceIdeal.Answer

@[expose] public section

set_option maxRecDepth 16384

noncomputable section

namespace Cert.Nearest
open Idealize Idealize.ShloMosaic Idealize.ShloMosaic.TcCoe Cert.KernelIdeal Cert.KernelIdeal.Gen
open Cert.KernelIdeal.Hand (argH argE argU W4)

/-- Every index of the result is a row of a batch. -/
theorem idx_pair (x : S16x1024.Idx) : ∃ (i : Fin 16) (j : Fin 1024), x = ix2 i j :=
  ⟨x 0, x 1, funext fun b => by match b with | ⟨0, _⟩ => rfl | ⟨1, _⟩ => rfl⟩

theorem equation (m : (ℓ : Loc nD τ sig) → Buf (Elt Ideal) ℓ) (c : Dev nD)
    (hH : ∀ i, ∃ r : ℝ, (argH m c i : EReal) = (r : EReal)) (hE : ∀ i, ∃ r : ℝ, (argE m c i : EReal) = (r : EReal)) :
    (show S16x1024.Idx → BitVec 32 from W4 m c (Proc.devRef .tc main_v4))
      = Cert.ReferenceIdeal.Hand.refOut (F := Ideal) (argH m c) (argE m c) (argU m c) := by
  funext x
  obtain ⟨i, j, rfl⟩ := idx_pair x
  choose a ha using fun d : Fin 256 => hH (ix3 i j d)
  have he : ∀ (k : Fin 8192) (d : Fin 256), ∃ r : ℝ, entry (argE m c) (argU m c) k d = (r : EReal) := fun k d => by
    obtain ⟨r, hr⟩ := hE (ix2 k d)
    rw [entry, hr]
    exact div_floor_real r _
  choose e he using he
  have haf : (fun d => argH m c (ix3 i j d)) = fun d => (a d : EReal) := funext ha
  have hef : ∀ k, (fun d => entry (argE m c) (argU m c) k d) = fun d => (e k d : EReal) := fun k => funext (he k)
  obtain ⟨p, hp, hpv⟩ := Cert.KernelIdeal.Hand.answer_at m c i j
  obtain ⟨q, hqv, hq⟩ := Cert.ReferenceIdeal.Hand.answer_at (argH m c) (argE m c) (argU m c) i j 0
    (by rw [haf, hef]; exact dist_lt_top _ _)
  refine hpv.trans ((congrArg (fun z : Fin 8192 => BitVec.ofNat 32 z.val) ?_).trans hqv.symm)
  simp only [haf, hef] at hp hq
  exact nearest_agree (by norm_num) a e p q hp hq

end Cert.Nearest
-- ==== Proof.Finite.lean ====
/-
  What the precondition says of an element: a hidden value and a codebook sum are reals.
-/
module

public import proofs.«01_k».proof.Proof.Gen.Pre_finite_inputs
public import proofs.«01_k».proof.Proof.Math.Dist
public import Idealize.ShloMosaic.Lib.ReduceAll

@[expose] public section

noncomputable section

namespace Cert.Pre_finite_inputs.Hand
open Idealize Idealize.ShloMosaic Cert.Pre_finite_inputs Cert.Pre_finite_inputs.Gen Cert.Nearest

instance : Subsingleton S_.Idx := ⟨fun _ _ => funext fun b => b.elim0⟩

/-- Where the comparison of a magnitude with infinity gives 1, the value is a real. -/
theorem real_of_bit {x y : EReal} (hy : y = ⊤) (h : Ideal.cmp .olt (max x (-x)) y = 1#1) : ∃ r : ℝ, x = (r : EReal) := by
  subst hy
  exact real_of_abs_lt (of_decide_eq_true ((StableHlo.Predicate.ofBool_eq_one_iff _).1 h))

theorem inf_top : Ideal.ofBits .f32 0x7F800000#32 = ⊤ := by
  simp [Ideal.ofBits, Ideal.ieee]

theorem reals (a : FVec Ideal S16x1024x256 .f32) (e : FVec Ideal S8192x256 .f32) (u : FVec Ideal S8192 .f32)
    (h : fn (F := Ideal) a e u = fun _ => 1#1) :
    (∀ i, ∃ r : ℝ, (a i : EReal) = (r : EReal)) ∧ ∀ i, ∃ r : ℝ, (e i : EReal) = (r : EReal) := by
  have h0 := congrFun h (Shape.Idx.first Facts.h_S_)
  obtain ⟨h1, h2⟩ := IntOp.andi_eq_one.1 h0
  exact ⟨fun i => real_of_bit inf_top (Host.reduce_andi_all _ _ _ _ _ h1 i),
    fun i => real_of_bit inf_top (Host.reduce_andi_all _ _ _ _ _ h2 i)⟩

end Cert.Pre_finite_inputs.Hand
-- ==== Proof.lean ====
/-
  The claim, assembled: the three frames, the ideal program as the kernel's own text, and the equality of the kernel's
  and the reference's results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_inputs
public import proofs.«01_k».proof.Proof.Kernel.Final
public import proofs.«01_k».proof.Proof.KernelIdeal.Final
public import proofs.«01_k».proof.Proof.ReferenceIdeal.Run
public import proofs.«01_k».proof.Proof.Equation
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The kernel's frame. -/
theorem frame_p : Cert.quiescent_Kernel := fun m ρ _ => Cert.Kernel.Hand.frame m ρ

/-- The ideal program's frame. -/
theorem frame_pi : Cert.quiescent_KernelIdeal := fun m ρ _ => Cert.KernelIdeal.Hand.frame m ρ

/-- The reference's run, read at its arguments; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Hand.run m ρ)

/-- From finite inputs the two programs end with one result. -/
theorem alg : Cert.algebraic_KernelIdeal_ReferenceIdeal_pre_finite_inputs := by
  intro m g m' g' hpre hargs
  refine ⟨fun c => Cert.KernelIdeal.Hand.W4 m c (Proc.devRef .tc Cert.KernelIdeal.main_v4), ?_, ?_⟩
  · exact (θ_run Cert.KernelIdeal.defs _ _).mono (fun _ h c =>
      ⟨h.1 c Cert.KernelIdeal.main_v4 rfl, (h.1 c Cert.KernelIdeal.main_arg0 rfl).trans (Cert.KernelIdeal.Hand.W4_arg0 m c),
        (h.1 c Cert.KernelIdeal.main_arg1 rfl).trans (Cert.KernelIdeal.Hand.W4_arg1 m c),
        (h.1 c Cert.KernelIdeal.main_arg2 rfl).trans (Cert.KernelIdeal.Hand.W4_arg2 m c)⟩) (Cert.KernelIdeal.Hand.run m g)
  · refine (θ_run Cert.ReferenceIdeal.defs _ _).mono (fun _ h c => ⟨(h c).1.trans ?_, (h c).2⟩) (Cert.ReferenceIdeal.Hand.run m' g')
    obtain ⟨hH, hE⟩ := Cert.Pre_finite_inputs.Hand.reals _ _ _ (hpre c)
    obtain ⟨h0, h1, h2⟩ := hargs c
    rw [h0, h1, h2]
    exact (Cert.Nearest.equation m c hH hE).symm

/-- Everything that is claimed. -/
theorem claim : Cert.Claim := ⟨Cert.Kernel.Gen.facts, Cert.KernelIdeal.Gen.facts, Cert.ReferenceIdeal.Gen.facts,
  Cert.Pre_finite_inputs.Gen.facts, frame_p, frame_pi, fun m ρ _ => Cert.KernelIdeal.Hand.frame m ρ, frame_ri,
  fun m ρ _ => frame_ri m ρ trivial, trivial, alg⟩

end Cert.Proof

end
